-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048x24x12 : Shape := ⟨4, ![128, 2048, 24, 12]⟩
abbrev S384x4096 : Shape := ⟨2, ![384, 4096]⟩
abbrev S384 : Shape := ⟨1, ![384]⟩
abbrev S38x192 : Shape := ⟨2, ![38, 192]⟩
abbrev S192x6 : Shape := ⟨2, ![192, 6]⟩
abbrev S192x16 : Shape := ⟨2, ![192, 16]⟩
abbrev S192 : Shape := ⟨1, ![192]⟩
abbrev S2048x576 : Shape := ⟨2, ![2048, 576]⟩
abbrev S2048 : Shape := ⟨1, ![2048]⟩
abbrev S128x12x24x2048 : Shape := ⟨4, ![128, 12, 24, 2048]⟩
abbrev S6x6 : Shape := ⟨2, ![6, 6]⟩
abbrev S_ : Shape := ⟨0, ![]⟩
abbrev S6x6x4 : Shape := ⟨3, ![6, 6, 4]⟩
abbrev S6x24 : Shape := ⟨2, ![6, 24]⟩
abbrev S96 : Shape := ⟨1, ![96]⟩
abbrev S192x4096 : Shape := ⟨2, ![192, 4096]⟩
abbrev S192x1 : Shape := ⟨2, ![192, 1]⟩
abbrev S192x2048 : Shape := ⟨2, ![192, 2048]⟩
abbrev S2048x192 : Shape := ⟨2, ![2048, 192]⟩
abbrev S1x192 : Shape := ⟨2, ![1, 192]⟩
abbrev S6x192 : Shape := ⟨2, ![6, 192]⟩
abbrev S32x192 : Shape := ⟨2, ![32, 192]⟩
abbrev S16x192 : Shape := ⟨2, ![16, 192]⟩
abbrev S1x1x192 : Shape := ⟨3, ![1, 1, 192]⟩
abbrev S2048x96x6 : Shape := ⟨3, ![2048, 96, 6]⟩
abbrev S6x96x2048 : Shape := ⟨3, ![6, 96, 2048]⟩
abbrev S1x2048 : Shape := ⟨2, ![1, 2048]⟩
abbrev S6x128x192 : Shape := ⟨3, ![6, 128, 192]⟩
abbrev S16x12x24x512 : Shape := ⟨4, ![16, 12, 24, 512]⟩
abbrev S6x16x192 : Shape := ⟨3, ![6, 16, 192]⟩
abbrev S96x192 : Shape := ⟨2, ![96, 192]⟩
abbrev S16x24x512 : Shape := ⟨3, ![16, 24, 512]⟩
abbrev S6x16x512 : Shape := ⟨3, ![6, 16, 512]⟩
abbrev S512x192 : Shape := ⟨2, ![512, 192]⟩
abbrev S96x512 : Shape := ⟨2, ![96, 512]⟩
abbrev S128x2048 : Shape := ⟨2, ![128, 2048]⟩
abbrev S768x192 : Shape := ⟨2, ![768, 192]⟩
abbrev S768x6 : Shape := ⟨2, ![768, 6]⟩
abbrev S32x768 : Shape := ⟨2, ![32, 768]⟩
abbrev S1x128x192 : Shape := ⟨3, ![1, 128, 192]⟩
abbrev S128x192 : Shape := ⟨2, ![128, 192]⟩
abbrev S16x128 : Shape := ⟨2, ![16, 128]⟩
abbrev S16x128x1 : Shape := ⟨3, ![16, 128, 1]⟩
abbrev S16x128x192 : Shape := ⟨3, ![16, 128, 192]⟩
abbrev S16x1x192 : Shape := ⟨3, ![16, 1, 192]⟩
abbrev S768 : Shape := ⟨1, ![768]⟩
abbrev S768x1 : Shape := ⟨2, ![768, 1]⟩
abbrev S128x96 : Shape := ⟨2, ![128, 96]⟩
abbrev S1x96x2048 : Shape := ⟨3, ![1, 96, 2048]⟩
abbrev S96x2048 : Shape := ⟨2, ![96, 2048]⟩
abbrev S128x2048x1x1 : Shape := ⟨4, ![128, 2048, 1, 1]⟩

abbrev nBuf : Space → Nat
  | .hbm => 147
  | .vmem => 23
  | .smem => 0
  | _ => 0

abbrev hbmTy0_0 (i : Nat) : BufTy := match i % 128 with
  | 0 => ⟨S128x2048x24x12, .f32⟩
  | 1 => ⟨S128x2048x24x12, .f32⟩
  | 2 => ⟨S384x4096, .f32⟩
  | 3 => ⟨S384, .f32⟩
  | 4 => ⟨S38x192, .f32⟩
  | 5 => ⟨S192x6, .f32⟩
  | 6 => ⟨S192x16, .f32⟩
  | 7 => ⟨S192, .f32⟩
  | 8 => ⟨S192, .f32⟩
  | 9 => ⟨S192, .f32⟩
  | 10 => ⟨S2048x576, .f32⟩
  | 11 => ⟨S2048, .f32⟩
  | 12 => ⟨S128x12x24x2048, .f32⟩
  | 13 => ⟨S128x12x24x2048, .f32⟩
  | 14 => ⟨S6x6, .i32⟩
  | 15 => ⟨S6x6, .i32⟩
  | 16 => ⟨S_, .i32⟩
  | 17 => ⟨S6x6, .i32⟩
  | 18 => ⟨S6x6, .i32⟩
  | 19 => ⟨S6x6, .i1⟩
  | 20 => ⟨S6x6, .f32⟩
  | 21 => ⟨S6x6x4, .f32⟩
  | 22 => ⟨S6x24, .f32⟩
  | 23 => ⟨S96, .i32⟩
  | 24 => ⟨S_, .i32⟩
  | 25 => ⟨S96, .i32⟩
  | 26 => ⟨S96, .i32⟩
  | 27 => ⟨S_, .i32⟩
  | 28 => ⟨S96, .i32⟩
  | 29 => ⟨S96, .i32⟩
  | 30 => ⟨S96, .i32⟩
  | 31 => ⟨S_, .i32⟩
  | 32 => ⟨S96, .i32⟩
  | 33 => ⟨S96, .i32⟩
  | 34 => ⟨S_, .i32⟩
  | 35 => ⟨S96, .i32⟩
  | 36 => ⟨S96, .i32⟩
  | 37 => ⟨S192, .i32⟩
  | 38 => ⟨S192x4096, .f32⟩
  | 39 => ⟨S_, .i32⟩
  | 40 => ⟨S192, .i32⟩
  | 41 => ⟨S192, .i1⟩
  | 42 => ⟨S_, .i32⟩
  | 43 => ⟨S192, .i32⟩
  | 44 => ⟨S192, .i32⟩
  | 45 => ⟨S192, .i32⟩
  | 46 => ⟨S192x1, .i32⟩
  | 47 => ⟨S192x4096, .f32⟩
  | 48 => ⟨S192x2048, .f32⟩
  | 49 => ⟨S2048x192, .f32⟩
  | 50 => ⟨S_, .f32⟩
  | 51 => ⟨S2048x192, .f32⟩
  | 52 => ⟨S2048x192, .f32⟩
  | 53 => ⟨S192x2048, .f32⟩
  | 54 => ⟨S2048x192, .f32⟩
  | 55 => ⟨S_, .f32⟩
  | 56 => ⟨S2048x192, .f32⟩
  | 57 => ⟨S2048x192, .f32⟩
  | 58 => ⟨S192, .f32⟩
  | 59 => ⟨S_, .i32⟩
  | 60 => ⟨S192, .i32⟩
  | 61 => ⟨S192, .i1⟩
  | 62 => ⟨S_, .i32⟩
  | 63 => ⟨S192, .i32⟩
  | 64 => ⟨S192, .i32⟩
  | 65 => ⟨S192, .i32⟩
  | 66 => ⟨S192x1, .i32⟩
  | 67 => ⟨S192, .f32⟩
  | 68 => ⟨S1x192, .f32⟩
  | 69 => ⟨S6x192, .f32⟩
  | 70 => ⟨S_, .i32⟩
  | 71 => ⟨S192, .i32⟩
  | 72 => ⟨S192, .i1⟩
  | 73 => ⟨S_, .i32⟩
  | 74 => ⟨S192, .i32⟩
  | 75 => ⟨S192, .i32⟩
  | 76 => ⟨S192, .i32⟩
  | 77 => ⟨S192x1, .i32⟩
  | 78 => ⟨S6x192, .f32⟩
  | 79 => ⟨S32x192, .f32⟩
  | 80 => ⟨S_, .i32⟩
  | 81 => ⟨S192, .i32⟩
  | 82 => ⟨S192, .i1⟩
  | 83 => ⟨S_, .i32⟩
  | 84 => ⟨S192, .i32⟩
  | 85 => ⟨S192, .i32⟩
  | 86 => ⟨S192, .i32⟩
  | 87 => ⟨S192x1, .i32⟩
  | 88 => ⟨S32x192, .f32⟩
  | 89 => ⟨S_, .i32⟩
  | 90 => ⟨S192, .i32⟩
  | 91 => ⟨S192, .i1⟩
  | 92 => ⟨S_, .i32⟩
  | 93 => ⟨S192, .i32⟩
  | 94 => ⟨S192, .i32⟩
  | 95 => ⟨S192, .i32⟩
  | 96 => ⟨S192x1, .i32⟩
  | 97 => ⟨S192x6, .f32⟩
  | 98 => ⟨S6x192, .f32⟩
  | 99 => ⟨S_, .i32⟩
  | 100 => ⟨S192, .i32⟩
  | 101 => ⟨S192, .i1⟩
  | 102 => ⟨S_, .i32⟩
  | 103 => ⟨S192, .i32⟩
  | 104 => ⟨S192, .i32⟩
  | 105 => ⟨S192, .i32⟩
  | 106 => ⟨S192x1, .i32⟩
  | 107 => ⟨S192x16, .f32⟩
  | 108 => ⟨S16x192, .f32⟩
  | 109 => ⟨S_, .i32⟩
  | 110 => ⟨S192, .i32⟩
  | 111 => ⟨S192, .i1⟩
  | 112 => ⟨S_, .i32⟩
  | 113 => ⟨S192, .i32⟩
  | 114 => ⟨S192, .i32⟩
  | 115 => ⟨S192, .i32⟩
  | 116 => ⟨S192x1, .i32⟩
  | 117 => ⟨S192, .f32⟩
  | 118 => ⟨S1x1x192, .f32⟩
  | 119 => ⟨S_, .i32⟩
  | 120 => ⟨S192, .i32⟩
  | 121 => ⟨S192, .i1⟩
  | 122 => ⟨S_, .i32⟩
  | 123 => ⟨S192, .i32⟩
  | 124 => ⟨S192, .i32⟩
  | 125 => ⟨S192, .i32⟩
  | 126 => ⟨S192x1, .i32⟩
  | 127 => ⟨S192, .f32⟩
  | _ => ⟨S128x2048x24x12, .f32⟩

abbrev hbmTy0_1 (i : Nat) : BufTy := match i % 128 with
  | 0 => ⟨S1x192, .f32⟩
  | 1 => ⟨S_, .i32⟩
  | 2 => ⟨S192, .i32⟩
  | 3 => ⟨S192, .i1⟩
  | 4 => ⟨S_, .i32⟩
  | 5 => ⟨S192, .i32⟩
  | 6 => ⟨S192, .i32⟩
  | 7 => ⟨S192, .i32⟩
  | 8 => ⟨S192x1, .i32⟩
  | 9 => ⟨S192, .f32⟩
  | 10 => ⟨S1x192, .f32⟩
  | 11 => ⟨S2048x96x6, .f32⟩
  | 12 => ⟨S6x96x2048, .f32⟩
  | 13 => ⟨S1x2048, .f32⟩
  | 14 => ⟨S6x128x192, .f32⟩
  | 15 => ⟨S128x2048, .f32⟩
  | 16 => ⟨S128x2048, .f32⟩
  | 17 => ⟨S128x2048x1x1, .f32⟩
  | 18 => ⟨S128x2048x1x1, .f32⟩
  | _ => ⟨S128x2048x24x12, .f32⟩

abbrev hbmTy (i : Nat) : BufTy := match i / 128 with
  | 0 => hbmTy0_0 i
  | 1 => hbmTy0_1 i
  | _ => ⟨S128x2048x24x12, .f32⟩

abbrev bufTy : (tb : Table) → Fin (tcTables nBuf tb) → BufTy
  | .hbm, ⟨i, _⟩ => hbmTy i
  | .local _ .vmem, ⟨0, _⟩ => ⟨S16x12x24x512, .f32⟩
  | .local _ .vmem, ⟨1, _⟩ => ⟨S16x12x24x512, .f32⟩
  | .local _ .vmem, ⟨2, _⟩ => ⟨S16x12x24x512, .f32⟩
  | .local _ .vmem, ⟨3, _⟩ => ⟨S16x12x24x512, .f32⟩
  | .local _ .vmem, ⟨4, _⟩ => ⟨S6x24, .f32⟩
  | .local _ .vmem, ⟨5, _⟩ => ⟨S2048x192, .f32⟩
  | .local _ .vmem, ⟨6, _⟩ => ⟨S2048x192, .f32⟩
  | .local _ .vmem, ⟨7, _⟩ => ⟨S6x16x192, .f32⟩
  | .local _ .vmem, ⟨8, _⟩ => ⟨S6x16x192, .f32⟩
  | .local _ .vmem, ⟨9, _⟩ => ⟨S96x192, .f32⟩
  | .local _ .vmem, ⟨10, _⟩ => ⟨S6x128x192, .f32⟩
  | .local _ .vmem, ⟨11, _⟩ => ⟨S1x192, .f32⟩
  | .local _ .vmem, ⟨12, _⟩ => ⟨S6x192, .f32⟩
  | .local _ .vmem, ⟨13, _⟩ => ⟨S6x192, .f32⟩
  | .local _ .vmem, ⟨14, _⟩ => ⟨S32x192, .f32⟩
  | .local _ .vmem, ⟨15, _⟩ => ⟨S16x192, .f32⟩
  | .local _ .vmem, ⟨16, _⟩ => ⟨S1x1x192, .f32⟩
  | .local _ .vmem, ⟨17, _⟩ => ⟨S1x192, .f32⟩
  | .local _ .vmem, ⟨18, _⟩ => ⟨S1x192, .f32⟩
  | .local _ .vmem, ⟨19, _⟩ => ⟨S6x96x2048, .f32⟩
  | .local _ .vmem, ⟨20, _⟩ => ⟨S1x2048, .f32⟩
  | .local _ .vmem, ⟨21, _⟩ => ⟨S128x2048, .f32⟩
  | .local _ .vmem, ⟨22, _⟩ => ⟨S128x2048, .f32⟩
  | _, _ => ⟨S128x2048x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_19 : Ref sig .tc := ⟨.hbm, 119, rfl⟩
abbrev main_v86 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_21 : Ref sig .tc := ⟨.hbm, 129, rfl⟩
abbrev main_v94 : Ref sig .tc := ⟨.hbm, 130, rfl⟩
abbrev main_v95 : Ref sig .tc := ⟨.hbm, 131, rfl⟩
abbrev main_c_22 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106_0 : Ref sig .tc := ⟨.hbm, 143, rfl⟩
abbrev main_v106_1 : Ref sig .tc := ⟨.hbm, 144, rfl⟩
abbrev main_v107 : Ref sig .tc := ⟨.hbm, 145, rfl⟩
abbrev main_v108 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : Index := Scalar.indexCast v10
  let c0_12 : Index := 0#32
  ![v11.toNat, 0]
def k0_cond3 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_20 : BitVec 32 := 0#32
  let v31 : BitVec 1 := Scalar.cmpi .ne v30 c0_i32_20
  v31

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x12x24x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x12x24x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S6x16x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S6x128x192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S6x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S6x96x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S128x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]
-- ==== ReferenceIdeal.lean ====
abbrev S128x2048x24x12 : Shape := ⟨4, ![128, 2048, 24, 12]⟩
abbrev S384x4096 : Shape := ⟨2, ![384, 4096]⟩
abbrev S384 : Shape := ⟨1, ![384]⟩
abbrev S38x192 : Shape := ⟨2, ![38, 192]⟩
abbrev S192x6 : Shape := ⟨2, ![192, 6]⟩
abbrev S192x16 : Shape := ⟨2, ![192, 16]⟩
abbrev S192 : Shape := ⟨1, ![192]⟩
abbrev S2048x576 : Shape := ⟨2, ![2048, 576]⟩
abbrev S2048 : Shape := ⟨1, ![2048]⟩
abbrev S128x2048x6x4x12 : Shape := ⟨5, ![128, 2048, 6, 4, 12]⟩
abbrev S_ : Shape := ⟨0, ![]⟩
abbrev S128x2048x6 : Shape := ⟨3, ![128, 2048, 6]⟩
abbrev S128x2048x1x6 : Shape := ⟨4, ![128, 2048, 1, 6]⟩
abbrev S128x2048x2x6 : Shape := ⟨4, ![128, 2048, 2, 6]⟩
abbrev S128x4096x6 : Shape := ⟨3, ![128, 4096, 6]⟩
abbrev S128x6x384 : Shape := ⟨3, ![128, 6, 384]⟩
abbrev S128x384x6 : Shape := ⟨3, ![128, 384, 6]⟩
abbrev S1x384x1 : Shape := ⟨3, ![1, 384, 1]⟩
abbrev S128x192x6 : Shape := ⟨3, ![128, 192, 6]⟩
abbrev S128x6x192 : Shape := ⟨3, ![128, 6, 192]⟩
abbrev S192x38 : Shape := ⟨2, ![192, 38]⟩
abbrev S128x6x38 : Shape := ⟨3, ![128, 6, 38]⟩
abbrev S128x6x6 : Shape := ⟨3, ![128, 6, 6]⟩
abbrev S128x6x16 : Shape := ⟨3, ![128, 6, 16]⟩
abbrev S6x192 : Shape := ⟨2, ![6, 192]⟩
abbrev S128x6x192x1 : Shape := ⟨4, ![128, 6, 192, 1]⟩
abbrev S1x1x192x16 : Shape := ⟨4, ![1, 1, 192, 16]⟩
abbrev S128x6x192x16 : Shape := ⟨4, ![128, 6, 192, 16]⟩
abbrev S128x6x1x16 : Shape := ⟨4, ![128, 6, 1, 16]⟩
abbrev S128x192x16 : Shape := ⟨3, ![128, 192, 16]⟩
abbrev S128x1x192x16 : Shape := ⟨4, ![128, 1, 192, 16]⟩
abbrev S128x1x16 : Shape := ⟨3, ![128, 1, 16]⟩
abbrev S128x16 : Shape := ⟨2, ![128, 16]⟩
abbrev S128x192 : Shape := ⟨2, ![128, 192]⟩
abbrev S128x1x192 : Shape := ⟨3, ![128, 1, 192]⟩
abbrev S1x1x192 : Shape := ⟨3, ![1, 1, 192]⟩
abbrev S128x6 : Shape := ⟨2, ![128, 6]⟩
abbrev S128x6x1 : Shape := ⟨3, ![128, 6, 1]⟩
abbrev S128x96x6 : Shape := ⟨3, ![128, 96, 6]⟩
abbrev S128x576 : Shape := ⟨2, ![128, 576]⟩
abbrev S576x2048 : Shape := ⟨2, ![576, 2048]⟩
abbrev S128x2048 : Shape := ⟨2, ![128, 2048]⟩
abbrev S1x2048 : Shape := ⟨2, ![1, 2048]⟩
abbrev S128x2048x1x1 : Shape := ⟨4, ![128, 2048, 1, 1]⟩

abbrev nBuf : Space → Nat
  | .hbm => 199
  | .vmem => 0
  | .smem => 0
  | _ => 0

abbrev hbmTy0_0 (i : Nat) : BufTy := match i % 128 with
  | 0 => ⟨S128x2048x24x12, .f32⟩
  | 1 => ⟨S128x2048x24x12, .f32⟩
  | 2 => ⟨S384x4096, .f32⟩
  | 3 => ⟨S384, .f32⟩
  | 4 => ⟨S38x192, .f32⟩
  | 5 => ⟨S192x6, .f32⟩
  | 6 => ⟨S192x16, .f32⟩
  | 7 => ⟨S192, .f32⟩
  | 8 => ⟨S192, .f32⟩
  | 9 => ⟨S192, .f32⟩
  | 10 => ⟨S2048x576, .f32⟩
  | 11 => ⟨S2048, .f32⟩
  | 12 => ⟨S128x2048x6x4x12, .f32⟩
  | 13 => ⟨S_, .f32⟩
  | 14 => ⟨S128x2048x6, .f32⟩
  | 15 => ⟨S_, .f32⟩
  | 16 => ⟨S128x2048x6, .f32⟩
  | 17 => ⟨S128x2048x6, .f32⟩
  | 18 => ⟨S128x2048x6x4x12, .f32⟩
  | 19 => ⟨S_, .f32⟩
  | 20 => ⟨S128x2048x6, .f32⟩
  | 21 => ⟨S_, .f32⟩
  | 22 => ⟨S128x2048x6, .f32⟩
  | 23 => ⟨S128x2048x6, .f32⟩
  | 24 => ⟨S128x2048x1x6, .f32⟩
  | 25 => ⟨S128x2048x1x6, .f32⟩
  | 26 => ⟨S128x2048x2x6, .f32⟩
  | 27 => ⟨S128x4096x6, .f32⟩
  | 28 => ⟨S128x6x384, .f32⟩
  | 29 => ⟨S128x384x6, .f32⟩
  | 30 => ⟨S1x384x1, .f32⟩
  | 31 => ⟨S128x384x6, .f32⟩
  | 32 => ⟨S128x384x6, .f32⟩
  | 33 => ⟨S128x192x6, .f32⟩
  | 34 => ⟨S128x6x192, .f32⟩
  | 35 => ⟨S192x38, .f32⟩
  | 36 => ⟨S128x6x38, .f32⟩
  | 37 => ⟨S128x6x6, .f32⟩
  | 38 => ⟨S128x6x16, .f32⟩
  | 39 => ⟨S128x6x16, .f32⟩
  | 40 => ⟨S6x192, .f32⟩
  | 41 => ⟨S128x6x192, .f32⟩
  | 42 => ⟨S_, .f32⟩
  | 43 => ⟨S128x6x192, .f32⟩
  | 44 => ⟨S128x6x192, .f32⟩
  | 45 => ⟨S128x6x192, .f32⟩
  | 46 => ⟨S128x6x192, .f32⟩
  | 47 => ⟨S128x6x192, .i1⟩
  | 48 => ⟨S128x6x192, .f32⟩
  | 49 => ⟨S128x6x192, .f32⟩
  | 50 => ⟨S128x6x192, .f32⟩
  | 51 => ⟨S128x6x192, .f32⟩
  | 52 => ⟨S128x6x192, .f32⟩
  | 53 => ⟨S128x6x192, .f32⟩
  | 54 => ⟨S128x6x192, .f32⟩
  | 55 => ⟨S128x6x192, .f32⟩
  | 56 => ⟨S192x16, .f32⟩
  | 57 => ⟨S192x16, .f32⟩
  | 58 => ⟨S128x6x192x1, .f32⟩
  | 59 => ⟨S1x1x192x16, .f32⟩
  | 60 => ⟨S128x6x192x16, .f32⟩
  | 61 => ⟨S128x6x192x16, .f32⟩
  | 62 => ⟨S128x6x192x16, .f32⟩
  | 63 => ⟨S128x6x192x16, .f32⟩
  | 64 => ⟨S128x6x192, .f32⟩
  | 65 => ⟨S128x6x192x1, .f32⟩
  | 66 => ⟨S128x6x1x16, .f32⟩
  | 67 => ⟨S128x6x192x16, .f32⟩
  | 68 => ⟨S128x6x192x16, .f32⟩
  | 69 => ⟨S128x6x192x16, .f32⟩
  | 70 => ⟨S_, .f32⟩
  | 71 => ⟨S128x192x16, .f32⟩
  | 72 => ⟨S128x1x192x16, .f32⟩
  | 73 => ⟨S128x192x16, .f32⟩
  | 74 => ⟨S128x192x16, .f32⟩
  | 75 => ⟨S128x1x192x16, .f32⟩
  | 76 => ⟨S128x192x16, .f32⟩
  | 77 => ⟨S128x192x16, .f32⟩
  | 78 => ⟨S128x1x16, .f32⟩
  | 79 => ⟨S128x16, .f32⟩
  | 80 => ⟨S128x192, .f32⟩
  | 81 => ⟨S128x1x192x16, .f32⟩
  | 82 => ⟨S128x192x16, .f32⟩
  | 83 => ⟨S128x192x16, .f32⟩
  | 84 => ⟨S128x1x192x16, .f32⟩
  | 85 => ⟨S128x192x16, .f32⟩
  | 86 => ⟨S128x192x16, .f32⟩
  | 87 => ⟨S128x1x16, .f32⟩
  | 88 => ⟨S128x16, .f32⟩
  | 89 => ⟨S128x192, .f32⟩
  | 90 => ⟨S128x1x192x16, .f32⟩
  | 91 => ⟨S128x192x16, .f32⟩
  | 92 => ⟨S128x192x16, .f32⟩
  | 93 => ⟨S128x1x192x16, .f32⟩
  | 94 => ⟨S128x192x16, .f32⟩
  | 95 => ⟨S128x192x16, .f32⟩
  | 96 => ⟨S128x1x16, .f32⟩
  | 97 => ⟨S128x16, .f32⟩
  | 98 => ⟨S128x192, .f32⟩
  | 99 => ⟨S128x1x192x16, .f32⟩
  | 100 => ⟨S128x192x16, .f32⟩
  | 101 => ⟨S128x192x16, .f32⟩
  | 102 => ⟨S128x1x192x16, .f32⟩
  | 103 => ⟨S128x192x16, .f32⟩
  | 104 => ⟨S128x192x16, .f32⟩
  | 105 => ⟨S128x1x16, .f32⟩
  | 106 => ⟨S128x16, .f32⟩
  | 107 => ⟨S128x192, .f32⟩
  | 108 => ⟨S128x1x192x16, .f32⟩
  | 109 => ⟨S128x192x16, .f32⟩
  | 110 => ⟨S128x192x16, .f32⟩
  | 111 => ⟨S128x1x192x16, .f32⟩
  | 112 => ⟨S128x192x16, .f32⟩
  | 113 => ⟨S128x192x16, .f32⟩
  | 114 => ⟨S128x1x16, .f32⟩
  | 115 => ⟨S128x16, .f32⟩
  | 116 => ⟨S128x192, .f32⟩
  | 117 => ⟨S128x1x192x16, .f32⟩
  | 118 => ⟨S128x192x16, .f32⟩
  | 119 => ⟨S128x192x16, .f32⟩
  | 120 => ⟨S128x1x192x16, .f32⟩
  | 121 => ⟨S128x192x16, .f32⟩
  | 122 => ⟨S128x192x16, .f32⟩
  | 123 => ⟨S128x1x16, .f32⟩
  | 124 => ⟨S128x16, .f32⟩
  | 125 => ⟨S128x192, .f32⟩
  | 126 => ⟨S128x1x192, .f32⟩
  | 127 => ⟨S128x1x192, .f32⟩
  | _ => ⟨S128x2048x24x12, .f32⟩

abbrev hbmTy0_1 (i : Nat) : BufTy := match i % 128 with
  | 0 => ⟨S128x1x192, .f32⟩
  | 1 => ⟨S128x1x192, .f32⟩
  | 2 => ⟨S128x1x192, .f32⟩
  | 3 => ⟨S128x1x192, .f32⟩
  | 4 => ⟨S128x6x192, .f32⟩
  | 5 => ⟨S1x1x192, .f32⟩
  | 6 => ⟨S128x6x192, .f32⟩
  | 7 => ⟨S128x6x192, .f32⟩
  | 8 => ⟨S128x6x192, .f32⟩
  | 9 => ⟨S_, .f32⟩
  | 10 => ⟨S128x6, .f32⟩
  | 11 => ⟨S128x6x1, .f32⟩
  | 12 => ⟨S_, .f32⟩
  | 13 => ⟨S128x6x1, .f32⟩
  | 14 => ⟨S128x6x1, .f32⟩
  | 15 => ⟨S128x6x192, .f32⟩
  | 16 => ⟨S128x6x192, .f32⟩
  | 17 => ⟨S128x6x192, .f32⟩
  | 18 => ⟨S_, .f32⟩
  | 19 => ⟨S128x6, .f32⟩
  | 20 => ⟨S128x6x1, .f32⟩
  | 21 => ⟨S_, .f32⟩
  | 22 => ⟨S128x6x1, .f32⟩
  | 23 => ⟨S128x6x1, .f32⟩
  | 24 => ⟨S128x6x192, .f32⟩
  | 25 => ⟨S128x6x192, .f32⟩
  | 26 => ⟨S_, .f32⟩
  | 27 => ⟨S128x6x1, .f32⟩
  | 28 => ⟨S128x6x1, .f32⟩
  | 29 => ⟨S128x6x1, .f32⟩
  | 30 => ⟨S128x6x192, .f32⟩
  | 31 => ⟨S128x6x192, .f32⟩
  | 32 => ⟨S1x1x192, .f32⟩
  | 33 => ⟨S128x6x192, .f32⟩
  | 34 => ⟨S128x6x192, .f32⟩
  | 35 => ⟨S1x1x192, .f32⟩
  | 36 => ⟨S128x6x192, .f32⟩
  | 37 => ⟨S128x6x192, .f32⟩
  | 38 => ⟨S128x192x6, .f32⟩
  | 39 => ⟨S128x96x6, .f32⟩
  | 40 => ⟨S128x576, .f32⟩
  | 41 => ⟨S128x96x6, .f32⟩
  | 42 => ⟨S128x576, .f32⟩
  | 43 => ⟨S576x2048, .f32⟩
  | 44 => ⟨S128x2048, .f32⟩
  | 45 => ⟨S1x2048, .f32⟩
  | 46 => ⟨S128x2048, .f32⟩
  | 47 => ⟨S128x2048, .f32⟩
  | 48 => ⟨S128x2048, .f32⟩
  | 49 => ⟨S128x2048, .f32⟩
  | 50 => ⟨S_, .f32⟩
  | 51 => ⟨S128x2048, .f32⟩
  | 52 => ⟨S128x2048, .f32⟩
  | 53 => ⟨S_, .f32⟩
  | 54 => ⟨S128x2048, .f32⟩
  | 55 => ⟨S128x2048, .f32⟩
  | 56 => ⟨S128x2048x1x1, .f32⟩
  | 57 => ⟨S576x2048, .f32⟩
  | 58 => ⟨S128x2048, .f32⟩
  | 59 => ⟨S1x2048, .f32⟩
  | 60 => ⟨S128x2048, .f32⟩
  | 61 => ⟨S128x2048, .f32⟩
  | 62 => ⟨S128x2048, .f32⟩
  | 63 => ⟨S128x2048, .f32⟩
  | 64 => ⟨S_, .f32⟩
  | 65 => ⟨S128x2048, .f32⟩
  | 66 => ⟨S128x2048, .f32⟩
  | 67 => ⟨S_, .f32⟩
  | 68 => ⟨S128x2048, .f32⟩
  | 69 => ⟨S128x2048, .f32⟩
  | 70 => ⟨S128x2048x1x1, .f32⟩
  | _ => ⟨S128x2048x24x12, .f32⟩

abbrev hbmTy (i : Nat) : BufTy := match i / 128 with
  | 0 => hbmTy0_0 i
  | 1 => hbmTy0_1 i
  | _ => ⟨S128x2048x24x12, .f32⟩

abbrev bufTy : (tb : Table) → Fin (tcTables nBuf tb) → BufTy
  | .hbm, ⟨i, _⟩ => hbmTy i
  | _, _ => ⟨S128x2048x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_4 : Ref sig .tc := ⟨.hbm, 137, rfl⟩
abbrev main_v107 : Ref sig .tc := ⟨.hbm, 138, rfl⟩
abbrev main_v108 : Ref sig .tc := ⟨.hbm, 139, rfl⟩
abbrev main_cst_5 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_6 : Ref sig .tc := ⟨.hbm, 146, rfl⟩
abbrev main_v114 : Ref sig .tc := ⟨.hbm, 147, rfl⟩
abbrev main_v115 : Ref sig .tc := ⟨.hbm, 148, rfl⟩
abbrev main_cst_7 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_8 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_9 : Ref sig .tc := ⟨.hbm, 178, rfl⟩
abbrev main_v143 : Ref sig .tc := ⟨.hbm, 179, rfl⟩
abbrev main_v144 : Ref sig .tc := ⟨.hbm, 180, rfl⟩
abbrev main_cst_10 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_11 : Ref sig .tc := ⟨.hbm, 192, rfl⟩
abbrev main_v155 : Ref sig .tc := ⟨.hbm, 193, rfl⟩
abbrev main_v156 : Ref sig .tc := ⟨.hbm, 194, rfl⟩
abbrev main_cst_12 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩

abbrev nD : Nat := 1
abbrev τ : Topo := Topo.v7x

variable {F : FTy → Type} [FloatOps F]
-- ==== Proof.Kern.Pool.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

/- The body of the first pallas_call at one grid point: what it leaves in its accumulator and in its output block,
   case by case of the three conditionals on the channel-chunk coordinate. -/

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, in closed form over the grid -/

/-- The first chunk: the accumulator is started. -/
abbrev isFirst (i : grid0.Coords) : Prop := (Scalar.cmpi .ne (Scalar.extui (Scalar.cmpi .eq (BitVec.ofNat 32 (i 1).val) 0#32)) 0#32) = 1#1
/-- A later chunk: the accumulator is added to. -/
abbrev isLater (i : grid0.Coords) : Prop := (Scalar.cmpi .ne (Scalar.extui (Scalar.cmpi .sgt (BitVec.ofNat 32 (i 1).val) 0#32)) 0#32) = 1#1
/-- The last chunk: the accumulator is copied to the output block. -/
abbrev isLast (i : grid0.Coords) : Prop := k0_cond3 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLater_iff : ∀ t : Fin cfg0.N, isLater (grid0.coords t) ↔ ¬ t.val % 4 = 0 :=
  (by decide +kernel : ∀ t : Fin grid0.N, isLater (grid0.coords t) ↔ ¬ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- The output window is idle, and not written back, at every chunk but the last. -/
theorem idle0 : ∀ t : Fin cfg0.N, ¬ t.val % 4 = 3 → cfg0.idle 5 (grid0.coords t) = true ∧ (cfg0.win 5).flush t = false := by
  decide +kernel
/-- At the last chunk it is live. -/
theorem live0 : ∀ t : Fin cfg0.N, t.val % 4 = 3 → cfg0.idle 5 (grid0.coords t) = false := by
  decide +kernel

/-! ## What one grid point computes -/

/-- The chunk of a weight matrix that grid point `i` loads: 512 consecutive rows. -/
abbrev rows (i : grid0.Coords) : Rect S2048x192 := Rect.unit (s := S2048x192) (k0_off1 i) S512x192.size (k0_off1_inb i)

/-- The accumulator after a point that starts it. -/
def accStart (i : grid0.Coords) (x0 x1 : Vec F S16x12x24x512 .f32) (x2 : Vec F S6x24 .f32) (x3 x4 : Vec F S2048x192 .f32) : Vec F S96x192 .f32 :=
  k0_pay3 (View.ld x0 (Rect.unit (s := S16x12x24x512) ![0, 0, 0, 0] S16x12x24x512.size inb_S16x12x24x512_S16x12x24x512_0_0_0_0)) (View.ld x1 (Rect.unit (s := S16x12x24x512) ![0, 0, 0, 0] S16x12x24x512.size inb_S16x12x24x512_S16x12x24x512_0_0_0_0)) (View.ld x2 (Rect.unit (s := S6x24) ![0, 0] S6x24.size inb_S6x24_S6x24_0_0)) (View.ld x3 (rows i)) (View.ld x4 (rows i))
/-- The accumulator after a point that adds to it, from what it held. -/
def accAdd (i : grid0.Coords) (x0 x1 : Vec F S16x12x24x512 .f32) (x2 : Vec F S6x24 .f32) (x3 x4 : Vec F S2048x192 .f32) (xs : Vec F S96x192 .f32) : Vec F S96x192 .f32 :=
  k0_pay4 (View.ld x0 (Rect.unit (s := S16x12x24x512) ![0, 0, 0, 0] S16x12x24x512.size inb_S16x12x24x512_S16x12x24x512_0_0_0_0)) (View.ld x1 (Rect.unit (s := S16x12x24x512) ![0, 0, 0, 0] S16x12x24x512.size inb_S16x12x24x512_S16x12x24x512_0_0_0_0)) (View.ld x2 (Rect.unit (s := S6x24) ![0, 0] S6x24.size inb_S6x24_S6x24_0_0)) (View.ld x3 (rows i)) (View.ld x4 (rows i))
    (View.ld xs (Rect.unit (s := S96x192) ![0, 0] S96x192.size inb_S96x192_S96x192_0_0))

set_option maxHeartbeats 1000000 in
/-- The body at a first chunk: the accumulator is started, the output block untouched. -/
theorem run0_first (c : Dev nD) (i : grid0.Coords) (arg2 : Memref sig .tc .vmem S16x12x24x512 .f32) (harg2 : arg2.IsWhole) (arg3 : Memref sig .tc .vmem S16x12x24x512 .f32) (harg3 : arg3.IsWhole) (arg4 : Memref sig .tc .vmem S6x24 .f32) (harg4 : arg4.IsWhole) (arg5 : Memref sig .tc .vmem S2048x192 .f32) (harg5 : arg5.IsWhole) (arg6 : Memref sig .tc .vmem S2048x192 .f32) (harg6 : arg6.IsWhole) (arg7 : Memref sig .tc .vmem S6x16x192 .f32) (harg7 : arg7.IsWhole) (arg8 : Memref sig .tc .vmem S96x192 .f32) (harg8 : arg8.IsWhole)
    (hc0 : isFirst i) (hc1 : ¬isLater i) (hc2 : ¬isLast i)
    (x0 x1 : Vec F S16x12x24x512 .f32) (x2 : Vec F S6x24 .f32) (x3 x4 : Vec F S2048x192 .f32) (xo : Vec F S6x16x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare (accStart i x0 x1 x2 x3 x4)) -∗ K ⟨⟩))
      ⊢ wp frame (wpE (defs₀ (F := F)) Variants.none c none) E (cc0_pool_inproj i arg2 harg2 arg3 harg3 arg4 harg4 arg5 harg5 arg6 harg6 arg7 harg7 arg8 harg8) K := by
  simp only [cc0_pool_inproj_eq_skeleton]; unfold cc0_pool_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0 hf1 hf2 hf3 hf4 hf5
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  refine (View.read_writes_full _ _ _ _ _).trans ?_
  rfl

set_option maxHeartbeats 1000000 in
/-- The body at a middle chunk: the accumulator is added to, the output block untouched. -/
theorem run0_mid (c : Dev nD) (i : grid0.Coords) (arg2 : Memref sig .tc .vmem S16x12x24x512 .f32) (harg2 : arg2.IsWhole) (arg3 : Memref sig .tc .vmem S16x12x24x512 .f32) (harg3 : arg3.IsWhole) (arg4 : Memref sig .tc .vmem S6x24 .f32) (harg4 : arg4.IsWhole) (arg5 : Memref sig .tc .vmem S2048x192 .f32) (harg5 : arg5.IsWhole) (arg6 : Memref sig .tc .vmem S2048x192 .f32) (harg6 : arg6.IsWhole) (arg7 : Memref sig .tc .vmem S6x16x192 .f32) (harg7 : arg7.IsWhole) (arg8 : Memref sig .tc .vmem S96x192 .f32) (harg8 : arg8.IsWhole)
    (hc0 : ¬isFirst i) (hc1 : isLater i) (hc2 : ¬isLast i)
    (x0 x1 : Vec F S16x12x24x512 .f32) (x2 : Vec F S6x24 .f32) (x3 x4 : Vec F S2048x192 .f32) (xs : Vec F S96x192 .f32) (xo : Vec F S6x16x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare (accAdd i x0 x1 x2 x3 x4 xs)) -∗ K ⟨⟩))
      ⊢ wp frame (wpE (defs₀ (F := F)) Variants.none c none) E (cc0_pool_inproj i arg2 harg2 arg3 harg3 arg4 harg4 arg5 harg5 arg6 harg6 arg7 harg7 arg8 harg8) K := by
  simp only [cc0_pool_inproj_eq_skeleton]; unfold cc0_pool_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  refine (View.read_writes_full _ _ _ _ _).trans ?_
  rfl

set_option maxHeartbeats 1000000 in
/-- The body at a last chunk: the accumulator is added to and its contents stored, reshaped, into the output block. -/
theorem run0_last (c : Dev nD) (i : grid0.Coords) (arg2 : Memref sig .tc .vmem S16x12x24x512 .f32) (harg2 : arg2.IsWhole) (arg3 : Memref sig .tc .vmem S16x12x24x512 .f32) (harg3 : arg3.IsWhole) (arg4 : Memref sig .tc .vmem S6x24 .f32) (harg4 : arg4.IsWhole) (arg5 : Memref sig .tc .vmem S2048x192 .f32) (harg5 : arg5.IsWhole) (arg6 : Memref sig .tc .vmem S2048x192 .f32) (harg6 : arg6.IsWhole) (arg7 : Memref sig .tc .vmem S6x16x192 .f32) (harg7 : arg7.IsWhole) (arg8 : Memref sig .tc .vmem S96x192 .f32) (harg8 : arg8.IsWhole)
    (hc0 : ¬isFirst i) (hc1 : isLater i) (hc2 : isLast i)
    (x0 x1 : Vec F S16x12x24x512 .f32) (x2 : Vec F S6x24 .f32) (x3 x4 : Vec F S2048x192 .f32) (xs : Vec F S96x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 (accAdd i x0 x1 x2 x3 x4 xs)) ∗ owns (c : Thread nD τ) arg8 fullShare (accAdd i x0 x1 x2 x3 x4 xs)) -∗ K ⟨⟩))
      ⊢ wp frame (wpE (defs₀ (F := F)) Variants.none c none) E (cc0_pool_inproj i arg2 harg2 arg3 harg3 arg4 harg4 arg5 harg5 arg6 harg6 arg7 harg7 arg8 harg8) K := by
  simp only [cc0_pool_inproj_eq_skeleton]; unfold cc0_pool_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0 hf1 hf2 hf3 hf4 hfs
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ _).trans ?_
    exact congrArg k0_pay1 ((View.readCov_full _ _ _ _ _).trans rfl)
  iexists _; isplitr
  swap; · iexact HS
  ipureintro
  refine (View.read_writes_full _ _ _ _ _).trans ?_
  rfl

/-! ## The pipeline's proof data, at the contents `V` the region finds -/

section Region
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`. -/
def acc (c : Dev nD) : (n : ℕ) → n < cfg0.N → Vec F S96x192 .f32
  | 0, h => accStart (grid0.coords ⟨0, h⟩) (blk0 V c 0 ⟨0, h⟩) (blk0 V c 1 ⟨0, h⟩) (blk0 V c 2 ⟨0, h⟩) (blk0 V c 3 ⟨0, h⟩) (blk0 V c 4 ⟨0, h⟩)
  | n + 1, h =>
    if (n + 1) % 4 = 0 then
      accStart (grid0.coords ⟨n + 1, h⟩) (blk0 V c 0 ⟨n + 1, h⟩) (blk0 V c 1 ⟨n + 1, h⟩) (blk0 V c 2 ⟨n + 1, h⟩) (blk0 V c 3 ⟨n + 1, h⟩) (blk0 V c 4 ⟨n + 1, h⟩)
    else
      accAdd (grid0.coords ⟨n + 1, h⟩) (blk0 V c 0 ⟨n + 1, h⟩) (blk0 V c 1 ⟨n + 1, h⟩) (blk0 V c 2 ⟨n + 1, h⟩) (blk0 V c 3 ⟨n + 1, h⟩) (blk0 V c 4 ⟨n + 1, h⟩)
        (acc c n (Nat.lt_of_succ_lt h))

theorem acc_first (c : Dev nD) (t : Fin cfg0.N) (h : t.val % 4 = 0) :
    acc V c t.val t.isLt = accStart (grid0.coords t) (blk0 V c 0 t) (blk0 V c 1 t) (blk0 V c 2 t) (blk0 V c 3 t) (blk0 V c 4 t) := by
  obtain ⟨n, hn⟩ := t
  cases n with
  | zero => rfl
  | succ n => exact if_pos h

theorem acc_later (c : Dev nD) (t : Fin cfg0.N) (h : ¬ t.val % 4 = 0) (h' : t.val - 1 < cfg0.N) :
    acc V c t.val t.isLt
      = accAdd (grid0.coords t) (blk0 V c 0 t) (blk0 V c 1 t) (blk0 V c 2 t) (blk0 V c 3 t) (blk0 V c 4 t) (acc V c (t.val - 1) h') := by
  obtain ⟨n, hn⟩ := t
  cases n with
  | zero => exact absurd rfl h
  | succ n => exact if_neg h

/-- The accumulator's buffer. -/
abbrev scr : Memref sig .tc .vmem S96x192 .f32 := Memref.whole cc0_scratch0

/-- A buffer the region does not use, at any contents. -/
abbrev some0 (c : Dev nD) (b : Ref sig .tc) : sProp 𝕄 := iprop(∃ f : Buf (Elt F) ((c : Thread nD τ).loc b), ((c : Thread nD τ).loc b) ↦{fullShare} f)
/-- The second pallas_call's staging buffers, which ride through this one. -/
def rest0 (c : Dev nD) : sProp 𝕄 :=
  iprop(some0 c cc1_stg0_0 ∗ some0 c cc1_stg1_0 ∗ some0 c cc1_stg2_0 ∗ some0 c cc1_stg3_0 ∗ some0 c cc1_stg4_0 ∗ some0 c cc1_stg5_0 ∗ some0 c cc1_stg6_0 ∗ some0 c cc1_stg7_0 ∗ some0 c cc1_stg8_0 ∗ some0 c cc1_stg9_0 ∗ some0 c cc1_stg10_0 ∗ some0 c cc1_stg11_0 ∗ some0 c cc1_stg12_0)

theorem PhiA0_eq (c : Dev nD) :
    (Pipeline.ΦA spec0 c : sProp 𝕄) = iprop(((∃ d, owns (c : Thread nD τ) scr fullShare d) ∗ rest0 c) ∗ (∃ r, prngReg c r)) := by
  unfold Pipeline.ΦA rest0; rw [scopedRest0_eq]; simp only [scr, owns_whole]; try rfl

/-- The invariant before point `n`: the accumulator at what the point before left in it (at anything before the first). -/
def Phi0 (c : Dev nD) : (n : ℕ) → n ≤ cfg0.N → sProp 𝕄
  | 0, _ => Pipeline.ΦA spec0 c
  | n + 1, hn => iprop((owns (c : Thread nD τ) scr fullShare (acc V c n hn) ∗ rest0 c) ∗ (∃ r, prngReg c r))

theorem Phi0_pos (c : Dev nD) (n : ℕ) (h : n ≤ cfg0.N) (hz : n ≠ 0) (h' : n - 1 < cfg0.N) :
    Phi0 V c n h = iprop((owns (c : Thread nD τ) scr fullShare (acc V c (n - 1) h') ∗ rest0 c) ∗ (∃ r, prngReg c r)) := by
  cases n with
  | zero => exact absurd rfl hz
  | succ n => rfl

/-- At any point the invariant gives the accumulator at some contents. -/
theorem Phi0_out (c : Dev nD) (n : ℕ) (h : n ≤ cfg0.N) :
    Phi0 V c n h ⊢ iprop(((∃ d, owns (c : Thread nD τ) scr fullShare d) ∗ rest0 c) ∗ (∃ r, prngReg c r)) := by
  cases n with
  | zero => rw [show Phi0 V c 0 h = Pipeline.ΦA spec0 c from rfl, PhiA0_eq]
  | succ n =>
    rw [show Phi0 V c (n + 1) h = iprop((owns (c : Thread nD τ) scr fullShare (acc V c n h) ∗ rest0 c) ∗ (∃ r, prngReg c r)) from rfl]
    iintro ⟨⟨HS, HR⟩, Hg⟩
    isplitl [HS HR]
    · isplitl [HS]
      · iexists _; iexact HS
      iexact HR
    iexact Hg

/-- The proof data: every input's buffer at its block, the output's at the reshaped accumulator. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay1 (acc V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]

theorem Phi0_castSucc (c : Dev nD) (t : Fin cfg0.N) : (dat0 V c).Φ t.castSucc = Phi0 V c t.val (Nat.le_of_lt t.isLt) := by
  dsimp only [dat0]; exact Pipeline.Dat.Φ_castSucc (Phi0 V c) t

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = k0_pay1 (acc V c t.val t.isLt) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A_eq0]; try rfl) t d).trans
    (by unfold Dat.fetched Dat.blockOf blk0; rw [A_eq0]; try rfl)

/-! ## The body obligation -/

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-- An input window's buffer is returned at its block. -/
theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 2000000 in
/-- The body at any point meets the obligation: the three cases of the chunk coordinate. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).owesAt () t.succ = (dat0 V c).owesAt () t.castSucc from rfl,
    show (dat0 V c).Φ t.succ = iprop((owns (c : Thread nD τ) scr fullShare (acc V c t.val t.isLt) ∗ rest0 c) ∗ (∃ r, prngReg c r)) from rfl,
    Phi0_castSucc, leaves0 V c t 0 rfl, leaves0 V c t 1 rfl, leaves0 V c t 2 rfl, leaves0 V c t 3 rfl, leaves0 V c t 4 rfl,
    after0_0, after0_1, after0_2, after0_3, after0_4]
  have hN : t.val < 32 := lt_of_lt_of_eq t.isLt (show cfg0.N = 32 from N_0)
  have hN1 : t.val - 1 < cfg0.N := lt_of_lt_of_eq (show t.val - 1 < 32 by omega) (show 32 = cfg0.N from N_0.symm)
  by_cases h0 : t.val % 4 = 0
  · have h2 : ¬ t.val % 4 = 3 := by omega
    rw [Dat.leavesExact_idle (dat0 V c) 5 t (idle0 t h2).1 (idle0 t h2).2, acc_first V c t h0]
    iintro ⟨HΦ, Ho, ⟨%d0, H0⟩, ⟨%d1, H1⟩, ⟨%d2, H2⟩, ⟨%d3, H3⟩, ⟨%d4, H4⟩, ⟨%d5, H5⟩⟩
    ihave HΦ := (Phi0_out V c _ _) $$ HΦ
    icases HΦ with ⟨⟨HS, HR⟩, Hg⟩
    iapply (run0_first c (grid0.coords t) _ _ _ _ _ _ _ _ _ _ _ _ _ _ ((isFirst_iff t).2 h0) (fun h => (isLater_iff t).1 h h0) (fun h => h2 ((isLast_iff t).1 h))
      (blk0 V c 0 t) (blk0 V c 1 t) (blk0 V c 2 t) (blk0 V c 3 t) (blk0 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h2 : t.val % 4 = 3
    · rw [leaves0 V c t 5 (live0 t h2), after0_5, acc_later V c t h0 hN1, Phi0_pos V c t.val _ (by omega) hN1]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_last c (grid0.coords t) _ _ _ _ _ _ _ _ _ _ _ _ _ _ (fun h => h0 ((isFirst_iff t).1 h)) ((isLater_iff t).2 h0) ((isLast_iff t).2 h2)
        (blk0 V c 0 t) (blk0 V c 1 t) (blk0 V c 2 t) (blk0 V c 3 t) (blk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle0 t h2).1 (idle0 t h2).2, acc_later V c t h0 hN1, Phi0_pos V c t.val _ (by omega) hN1]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_mid c (grid0.coords t) _ _ _ _ _ _ _ _ _ _ _ _ _ _ (fun h => h0 ((isFirst_iff t).1 h)) ((isLater_iff t).2 h0) (fun h => h2 ((isLast_iff t).1 h))
        (blk0 V c 0 t) (blk0 V c 1 t) (blk0 V c 2 t) (blk0 V c 3 t) (blk0 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t` is the body. -/
theorem row0 (t : Fin cfg0.N) : defs₀ (F := F) .tc cfg0.body (cfg0.bodyArgs t (cfg0.slots t)) = bodyAt0 t := by
  unfold defs₀; rw [Defs.onTc_tc]

/-- The library's body obligation, at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

theorem Phi0_first (c : Dev nD) : (dat0 V c).Φ 0 = Pipeline.ΦA spec0 c := rfl

theorem Phi0_last (c : Dev nD) : (dat0 V c).Φ (Fin.last cfg0.N) ⊢ Pipeline.ΦA spec0 c := by
  rw [PhiA0_eq, show (dat0 V c).Φ (Fin.last cfg0.N) = Phi0 V c cfg0.N le_rfl from rfl]
  exact Phi0_out V c _ _

end Region

end Cert.KernelIdeal.Kern

end
-- ==== Proof.Kern.Scan.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

/- The body of the second pallas_call (the scan, the normalisation and the two category products), whose grid is one
   point: what it leaves in its two output blocks, as functions of its eleven input blocks. -/

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores -/

abbrev r1_0 : Rect S6x128x192 := Rect.unit (s := S6x128x192) ![0, 0, 0] S6x128x192.size inb_S6x128x192_S6x128x192_0_0_0
abbrev r1_1 : Rect S1x192 := Rect.unit (s := S1x192) ![0, 0] S1x192.size inb_S1x192_S1x192_0_0
abbrev r1_2 : Rect S6x192 := Rect.unit (s := S6x192) ![0, 0] S6x192.size inb_S6x192_S6x192_0_0
abbrev r1_3 : Rect S32x192 := Rect.unit (s := S32x192) ![0, 0] S32x192.size inb_S32x192_S32x192_0_0
abbrev r1_4 : Rect S16x192 := Rect.unit (s := S16x192) ![0, 0] S16x192.size inb_S16x192_S16x192_0_0
abbrev r1_5 : Rect S1x1x192 := Rect.unit (s := S1x1x192) ![0, 0, 0] S1x1x192.size inb_S1x1x192_S1x1x192_0_0_0
abbrev r1_6 : Rect S1x2048 := Rect.unit (s := S1x2048) ![0, 0] S1x2048.size inb_S1x2048_S1x2048_0_0
abbrev r1_7 : Rect S6x96x2048 := Rect.unit (s := S6x96x2048) ![0, 0, 0] S1x96x2048.size inb_S6x96x2048_S1x96x2048_0_0_0
abbrev r1_8 : Rect S6x96x2048 := Rect.unit (s := S6x96x2048) ![1, 0, 0] S1x96x2048.size inb_S6x96x2048_S1x96x2048_1_0_0
abbrev r1_9 : Rect S6x96x2048 := Rect.unit (s := S6x96x2048) ![2, 0, 0] S1x96x2048.size inb_S6x96x2048_S1x96x2048_2_0_0
abbrev r1_10 : Rect S6x96x2048 := Rect.unit (s := S6x96x2048) ![3, 0, 0] S1x96x2048.size inb_S6x96x2048_S1x96x2048_3_0_0
abbrev r1_11 : Rect S6x96x2048 := Rect.unit (s := S6x96x2048) ![4, 0, 0] S1x96x2048.size inb_S6x96x2048_S1x96x2048_4_0_0
abbrev r1_12 : Rect S6x96x2048 := Rect.unit (s := S6x96x2048) ![5, 0, 0] S1x96x2048.size inb_S6x96x2048_S1x96x2048_5_0_0
abbrev r1_13 : Rect S128x2048 := Rect.unit (s := S128x2048) ![0, 0] S128x2048.size inb_S128x2048_S128x2048_0_0

/-- The eleven input blocks. -/
structure Ins (F : FTy → Type) where
  x0 : Vec F S6x128x192 .f32
  x1 : Vec F S1x192 .f32
  x2 : Vec F S6x192 .f32
  x3 : Vec F S6x192 .f32
  x4 : Vec F S32x192 .f32
  x5 : Vec F S16x192 .f32
  x6 : Vec F S1x1x192 .f32
  x7 : Vec F S1x192 .f32
  x8 : Vec F S1x192 .f32
  x9 : Vec F S6x96x2048 .f32
  x10 : Vec F S1x2048 .f32

/-! ## The values the body computes -/

/-- The tokens with their bias added. -/
def xt3 (b : Ins F) : FVec F S6x128x192 .f32 :=
  k1_pay3 (View.ld b.x0 r1_0) (View.ld b.x1 r1_1)
/-- The rows of B and C. -/
def bct (b : Ins F) : FVec F S32x768 .f32 :=
  k1_pay5 (View.ld b.x0 r1_0) (View.ld b.x1 r1_1) (View.ld b.x4 r1_3)
/-- The negated exponentials. -/
def aneg (b : Ins F) : FVec F S16x192 .f32 :=
  k1_pay6 (View.ld b.x5 r1_4)
/-- The step sizes. -/
def dts (b : Ins F) : FVec F S6x128x192 .f32 :=
  k1_pay7 (View.ld b.x0 r1_0) (View.ld b.x1 r1_1) (View.ld b.x2 r1_2) (View.ld b.x3 r1_2)
/-- The step sizes of the first token. -/
def dt0 (b : Ins F) : FVec F S128x192 .f32 :=
  k1_pay8 (View.ld b.x0 r1_0) (View.ld b.x1 r1_1) (View.ld b.x2 r1_2) (View.ld b.x3 r1_2)
/-- The first token. -/
def xrow0 (b : Ins F) : FVec F S1x128x192 .f32 :=
  k1_pay9 (View.ld b.x0 r1_0) (View.ld b.x1 r1_1)
/-- The state after the third token. -/
def u2 (b : Ins F) : FVec F S16x128x192 .f32 :=
  k1_pay14 (xt3 b) (bct b) (aneg b) (dts b) (dt0 b) (xrow0 b)
/-- The normalised rows. -/
def nrm (b : Ins F) : FVec F S768x192 .f32 :=
  k1_pay25 (xt3 b) (aneg b) (k1_pay11 (bct b) (dt0 b) (xrow0 b)) (k1_pay13 (xt3 b) (bct b) (aneg b) (dts b) (dt0 b) (xrow0 b)) (k1_pay16 (u2 b) (k1_pay15 (bct b))) (k1_pay18 (xt3 b) (bct b) (aneg b) (dts b) (u2 b)) (k1_pay19 (xt3 b) (bct b) (aneg b) (dts b) (u2 b)) (k1_pay20 (xt3 b) (bct b) (aneg b) (dts b) (u2 b)) (k1_pay21 (dts b)) (k1_pay22 (xt3 b)) (k1_pay23 (bct b)) (k1_pay24 (bct b)) (View.ld b.x6 r1_5)
/-- The scale row. -/
def gam (b : Ins F) : FVec F S1x192 .f32 :=
  k1_pay26 (View.ld b.x7 r1_1)
/-- The layer-normalised rows. -/
def ynorm (b : Ins F) : FVec F S6x128x192 .f32 :=
  k1_pay27 (nrm b) (gam b) (View.ld b.x8 r1_1)

/-- The first output block. -/
def visOut (b : Ins F) : Vec F S128x2048 .f32 :=
  k1_pay1 (ynorm b) (k1_pay33 (ynorm b) (k1_pay30 (nrm b) (gam b) (View.ld b.x8 r1_1) (View.ld b.x10 r1_6) (View.ld b.x9 r1_7) (View.ld b.x9 r1_8)) (View.ld b.x9 r1_9) (View.ld b.x9 r1_10) (View.ld b.x9 r1_11)) (View.ld b.x9 r1_12)
/-- The second output block. -/
def infOut (b : Ins F) : Vec F S128x2048 .f32 :=
  k1_pay2 (ynorm b) (k1_pay32 (ynorm b) (k1_pay29 (nrm b) (gam b) (View.ld b.x8 r1_1) (View.ld b.x10 r1_6) (View.ld b.x9 r1_7)) (k1_pay31 (nrm b) (gam b) (View.ld b.x8 r1_1) (View.ld b.x9 r1_8)) (View.ld b.x9 r1_9) (View.ld b.x9 r1_10)) (k1_pay34 (ynorm b)) (View.ld b.x9 r1_11) (View.ld b.x9 r1_12)

/-! ## The body -/

set_option maxHeartbeats 2000000 in
/-- The body, from its input blocks at `b` and its output blocks at anything, leaves the inputs as they were and the outputs at
    `visOut b` and `infOut b`. -/
theorem run1 (c : Dev nD) (E : Set ℕ) (i : grid1.Coords) (arg1 : Memref sig .tc .vmem S6x128x192 .f32) (harg1 : arg1.IsWhole) (arg2 : Memref sig .tc .vmem S1x192 .f32) (harg2 : arg2.IsWhole) (arg3 : Memref sig .tc .vmem S6x192 .f32) (harg3 : arg3.IsWhole) (arg4 : Memref sig .tc .vmem S6x192 .f32) (harg4 : arg4.IsWhole) (arg5 : Memref sig .tc .vmem S32x192 .f32) (harg5 : arg5.IsWhole) (arg6 : Memref sig .tc .vmem S16x192 .f32) (harg6 : arg6.IsWhole) (arg7 : Memref sig .tc .vmem S1x1x192 .f32) (harg7 : arg7.IsWhole) (arg8 : Memref sig .tc .vmem S1x192 .f32) (harg8 : arg8.IsWhole) (arg9 : Memref sig .tc .vmem S1x192 .f32) (harg9 : arg9.IsWhole) (arg10 : Memref sig .tc .vmem S6x96x2048 .f32) (harg10 : arg10.IsWhole) (arg11 : Memref sig .tc .vmem S1x2048 .f32) (harg11 : arg11.IsWhole) (arg12 : Memref sig .tc .vmem S128x2048 .f32) (harg12 : arg12.IsWhole) (arg13 : Memref sig .tc .vmem S128x2048 .f32) (harg13 : arg13.IsWhole)
    (b : Ins F) (K : PUnit → sProp 𝕄) :
    iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ (∃ d, owns (c : Thread nD τ) arg12 fullShare d) ∗ (∃ d, owns (c : Thread nD τ) arg13 fullShare d)
        ∗ (iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare (visOut b) ∗ owns (c : Thread nD τ) arg13 fullShare (infOut b)) -∗ K ⟨⟩))
      ⊢ wp frame (wpE (defs₀ (F := F)) Variants.none c none) E (cc1_scan_tail i arg1 harg1 arg2 harg2 arg3 harg3 arg4 harg4 arg5 harg5 arg6 harg6 arg7 harg7 arg8 harg8 arg9 harg9 arg10 harg10 arg11 harg11 arg12 harg12 arg13 harg13) K := by
  simp only [cc1_scan_tail_eq_skeleton]; unfold cc1_scan_tail_skel
  simp only [k1_part1_eq_skeleton, k1_part2_eq_skeleton, k1_part3_eq_skeleton, k1_part4_eq_skeleton, k1_part5_eq_skeleton, k1_part6_eq_skeleton]
  obtain ⟨x0, x1, x2, x3, x4, x5, x6, x7, x8, x9, x10⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_full _ _ _ _ _).trans rfl
  iexists _; isplitr
  swap; · iexact H12
  ipureintro
  exact (View.read_writes_full _ _ _ _ _).trans rfl

/-! ## The pipeline's proof data, at the contents `V` the region finds -/

section Region
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at point `t`. -/
def ins (c : Dev nD) (t : Fin cfg1.N) : Ins F :=
  ⟨blk1 V c 0 t, blk1 V c 1 t, blk1 V c 2 t, blk1 V c 3 t, blk1 V c 4 t, blk1 V c 5 t, blk1 V c 6 t, blk1 V c 7 t, blk1 V c 8 t, blk1 V c 9 t, blk1 V c 10 t⟩

/-- The proof data: every input's buffer at its block, the outputs' at `visOut` and `infOut` of them. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => visOut (ins V c t)
    | ⟨12, _⟩ => infOut (ins V c t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = blk1 V c 10 t := by dsimp only [dat1]
theorem after1_11 (c : Dev nD) (t : Fin cfg1.N) : (dat1 V c).after 11 t = visOut (ins V c t) := by dsimp only [dat1]
theorem after1_12 (c : Dev nD) (t : Fin cfg1.N) : (dat1 V c).after 12 t = infOut (ins V c t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A_eq1]; try rfl) t d).trans
    (by unfold Dat.fetched Dat.blockOf blk1; rw [A_eq1]; try rfl)
theorem before1_8 (c : Dev nD) (t : Fin cfg1.N) (d) : (dat1 V c).before 8 t d = blk1 V c 8 t :=
  ((dat1 V c).before_in_eq_fetched 8 rfl (fun _ => rfl) (fun _ _ _ => rfl) (fun t => by rw [after1_8]; unfold Dat.blockOf blk1; rw [A_eq1]; try rfl) t d).trans
    (by unfold Dat.fetched Dat.blockOf blk1; rw [A_eq1]; try rfl)
theorem before1_9 (c : Dev nD) (t : Fin cfg1.N) (d) : (dat1 V c).before 9 t d = blk1 V c 9 t :=
  ((dat1 V c).before_in_eq_fetched 9 rfl (fun _ => rfl) (fun _ _ _ => rfl) (fun t => by rw [after1_9]; unfold Dat.blockOf blk1; rw [A_eq1]; try rfl) t d).trans
    (by unfold Dat.fetched Dat.blockOf blk1; rw [A_eq1]; try rfl)
theorem before1_10 (c : Dev nD) (t : Fin cfg1.N) (d) : (dat1 V c).before 10 t d = blk1 V c 10 t :=
  ((dat1 V c).before_in_eq_fetched 10 rfl (fun _ => rfl) (fun _ _ _ => rfl) (fun t => by rw [after1_10]; unfold Dat.blockOf blk1; rw [A_eq1]; try rfl) t d).trans
    (by unfold Dat.fetched Dat.blockOf blk1; rw [A_eq1]; try rfl)

/-! ## The body obligation -/

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at the point meets the obligation. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run1 c Set.univ (grid1.coords t) _ _ _ _ _ _ _ _ _ _ _ _ _ _ _ _ _ _ _ _ _ _ _ _ _ _ (ins V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body. -/
theorem row1 (t : Fin cfg1.N) : defs₀ (F := F) .tc cfg1.body (cfg1.bodyArgs t (cfg1.slots t)) = bodyAt1 t := by
  unfold defs₀; rw [Defs.onTc_tc]

/-- The library's body obligation. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Region

end Cert.KernelIdeal.Kern

end
-- ==== Proof.Kern.Run.lean ====
module

public import proofs.«01_k».proof.Proof.Kern.Pool
public import proofs.«01_k».proof.Proof.Kern.Scan
public import Idealize.ShloMosaic.Lib.Pipeline.RegionsLoop
public import Idealize.ShloMosaic.Lib.Pipeline.FrameSuffix

@[expose] public section

set_option maxRecDepth 16384

noncomputable section

/- The run of the whole program: the host operations before the first pallas_call, the two calls, the two operations after;
   what every buffer holds at each boundary; the frame. -/

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_c, main_v4, main_v5, main_v6, main_v7, main_v8, main_v9, main_v10, main_c_0, main_v11, main_v12, main_c_1, main_v13, main_v14, main_v15, main_c_2, main_v16, main_v17, main_c_3, main_v18, main_v19, main_v20, main_v21, main_c_4, main_v22, main_v23, main_c_5, main_v24, main_v25, main_v26, main_v27, main_v28, main_v29, main_v30, main_cst, main_v31, main_v32, main_v33, main_v34, main_cst_6, main_v35, main_v36, main_v37, main_c_7, main_v38, main_v39, main_c_8, main_v40, main_v41, main_v42, main_v43, main_v44, main_v45, main_v46, main_c_9, main_v47, main_v48, main_c_10, main_v49, main_v50, main_v51, main_v52, main_v53, main_v54, main_c_11, main_v55, main_v56, main_c_12, main_v57, main_v58, main_v59, main_v60, main_v61, main_c_13, main_v62, main_v63, main_c_14, main_v64, main_v65, main_v66, main_v67, main_v68, main_v69, main_c_15, main_v70, main_v71, main_c_16, main_v72, main_v73, main_v74, main_v75, main_v76, main_v77, main_c_17, main_v78, main_v79, main_c_18, main_v80, main_v81, main_v82, main_v83, main_v84, main_v85, main_c_19, main_v86, main_v87, main_c_20, main_v88, main_v89, main_v90, main_v91, main_v92, main_v93, main_c_21, main_v94, main_v95, main_c_22, main_v96, main_v97, main_v98, main_v99, main_v100, main_v101, main_v102, main_v103, main_v104]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v107, main_v108]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (the first region's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` : every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_first (V1 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the implicit arguments are found by unifying the conclusion with this one, which takes unfolding plain definitions in a
-- metavariable's type
set_option backward.isDefEq.respectTransparency.types false in
/-- The run: every weakly fair execution terminates without a fault, and every final state has each unscoped buffer at the last
    boundary's contents and every semaphore counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments are unscoped. -/
theorem args_unscoped : ∀ a ∈ argRefs, ¬ (Proc.devRef .tc a : DevRef τ sig).isScoped :=
  ListAll.forall_mem_of_all_decide (by decide +kernel)

/-- In a state whose unscoped buffers hold the last boundary's contents the arguments are as launched. -/
theorem kept {mem : (ℓ : Loc nD τ sig) → Buf (Elt F) ℓ} (h : ∀ c : Dev nD, ∀ b ∈ Pipeline.ucRefs τ sig, mem ((c : Thread nD τ).1, b) = W4 m ρ c b)
    (c : Dev nD) (a : Ref sig .tc) (ha : a ∈ argRefs) : mem ((c.tc : Thread nD τ).loc a) = m ((c.tc : Thread nD τ).loc a) :=
  (h c _ (mem_uc a (args_unscoped a ha))).trans (W4_args m ρ c a ha)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h =>
    ⟨fun c => ⟨kept m ρ h.1 c main_arg0 (by decide),
      kept m ρ h.1 c main_arg1 (by decide),
      kept m ρ h.1 c main_arg2 (by decide),
      kept m ρ h.1 c main_arg3 (by decide),
      kept m ρ h.1 c main_arg4 (by decide),
      kept m ρ h.1 c main_arg5 (by decide),
      kept m ρ h.1 c main_arg6 (by decide),
      kept m ρ h.1 c main_arg7 (by decide),
      kept m ρ h.1 c main_arg8 (by decide),
      kept m ρ h.1 c main_arg9 (by decide),
      kept m ρ h.1 c main_arg10 (by decide),
      kept m ρ h.1 c main_arg11 (by decide)⟩, h.2⟩) (run m ρ)

/-- The run, read: the two results at the last boundary's contents, the arguments unchanged. -/
theorem run_results : θ_run defs (onTc (τ := τ) (main (F := F))) ⟨m, fun _ => 0, ρ⟩ (fun r => ∀ c : Dev nD,
      (r.2.mem ((c.tc : Thread nD τ).loc main_v107) = W4 m ρ c (Proc.devRef .tc main_v107)
      ∧ r.2.mem ((c.tc : Thread nD τ).loc main_v108) = W4 m ρ c (Proc.devRef .tc main_v108))
      ∧ ∀ a ∈ argRefs, r.2.mem ((c.tc : Thread nD τ).loc a) = m ((c.tc : Thread nD τ).loc a)) :=
  (θ_run defs _ _).mono (fun r h c =>
    ⟨⟨h.1 c _ (mem_uc main_v107 (by decide)), h.1 c _ (mem_uc main_v108 (by decide))⟩,
      fun a ha => kept m ρ h.1 c a ha⟩) (run m ρ)

end Cert.KernelIdeal.Kern

end
-- ==== Proof.Kern.Same.lean ====
module

public import proofs.«01_k».proof.Proof.Kern.Run
public import proofs.«01_k».proof.Proof.Gen.Kernel
public import proofs.«01_k».proof.Proof.Gen.ReferenceIdeal.Run
public import proofs.«01_k».proof.Defs

@[expose] public section

set_option maxRecDepth 65536

/- The printed kernel and its idealization are one program (no operation was replaced), so a run of one is a run of the
   other: the frame of the printed kernel at machine words is the frame proved for any float values. -/

namespace Cert.Same

open Idealize.ShloMosaic Idealize.SL.Sem

section
variable {F : FTy → Type} [FloatOps F] [hK : Cert.Kernel.Facts] [hI : Cert.KernelIdeal.Facts]

set_option maxHeartbeats 4000000 in
/-- The two programs' tables of kernel bodies are equal. -/
theorem defs₀_eq : Cert.Kernel.defs₀ (F := F) = Cert.KernelIdeal.defs₀ (F := F) := by
  refine congrArg Defs.onTc (funext fun p => funext fun a => ?_)
  obtain ⟨n, h⟩ := p
  match n, h with
  | 0, h => rfl
  | 1, h => rfl
  | n + 2, h => exact absurd h (Nat.not_lt.2 (Nat.le_add_left _ _))

set_option maxHeartbeats 4000000 in
theorem defs_eq : Cert.Kernel.defs (F := F) = Cert.KernelIdeal.defs (F := F) :=
  congrArg (Pipeline.defs Cert.KernelIdeal.pcfgs) defs₀_eq

set_option maxHeartbeats 4000000 in
theorem main_eq : Cert.Kernel.main (F := F) = Cert.KernelIdeal.main (F := F) := rfl
end

/-- The printed kernel's frame. -/
theorem frame_kernel : Cert.quiescent_Kernel (hKernel := Cert.Kernel.Gen.facts) := fun m ρ _ => by
  have h := Cert.KernelIdeal.Kern.frame (F := Bits) m ρ
  rw [← @defs_eq Bits _ Cert.Kernel.Gen.facts Cert.KernelIdeal.Gen.facts,
    ← @main_eq Bits _ Cert.Kernel.Gen.facts Cert.KernelIdeal.Gen.facts] at h
  exact h

/-- The idealized kernel's frame. -/
theorem frame_kernelIdeal : Cert.quiescent_KernelIdeal (hKernelIdeal := Cert.KernelIdeal.Gen.facts) := fun m ρ _ =>
  Cert.KernelIdeal.Kern.frame (F := Ideal) m ρ

/-- The reference's frame: its run, read at the arguments; it has no semaphore. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems rfl r.2⟩)
    (Cert.ReferenceIdeal.Value.run (F := Ideal) m ρ)

end Cert.Same
-- ==== Proof.Math.PoolAt.lean ====
module

public import proofs.«01_k».proof.Proof.Kern.Pool
public import Idealize.ShloMosaic.Lib.Pointwise
public import Idealize.ShloMosaic.Lib.Pipeline.ValueKit

@[expose] public section

set_option maxRecDepth 16384

noncomputable section

/- The first call's array at an index: the tokens before the bias, as the sum over the four chunks of channels of the
   pooled maps times their projections. -/

namespace Cert.KernelIdeal.Kern

open Cert.KernelIdeal Cert.KernelIdeal.Gen
open Idealize.ShloMosaic Idealize.ShloMosaic.TcCoe Idealize.SL.Sem
open Idealize.ShloMosaic.Pipeline (Dat)

/-- A chunk's share of a token that starts the accumulator, at an index. -/
theorem pay3_at (v0 v3 : Vec Ideal S16x12x24x512 .f32) (v6 : Vec Ideal S6x24 .f32) (v12 v16 : Vec Ideal S512x192 .f32)
    (l : Fin 6) (n : Fin 16) (d : Fin 192) :
    k0_pay3 v0 v3 v6 v12 v16 (ix2 ⟨l * 16 + n, by omega⟩ d)
      = (∑ k : Fin 512, (∑ h : Fin 24, v6 (ix2 l h) * ∑ w : Fin 12, v0 (ix4 n w h k)) * v12 (ix2 k d))
        + ∑ k : Fin 512, (∑ h : Fin 24, v6 (ix2 l h) * ∑ w : Fin 12, v3 (ix4 n w h k)) * v16 (ix2 k d) := by
  pointwise [k0_pay3, k0_pay2]

/-- A chunk's share of a token added to the accumulator, at an index. -/
theorem pay4_at (v0 v3 : Vec Ideal S16x12x24x512 .f32) (v6 : Vec Ideal S6x24 .f32) (v12 v16 : Vec Ideal S512x192 .f32)
    (v32 : Vec Ideal S96x192 .f32) (l : Fin 6) (n : Fin 16) (d : Fin 192) :
    k0_pay4 v0 v3 v6 v12 v16 v32 (ix2 ⟨l * 16 + n, by omega⟩ d)
      = v32 (ix2 ⟨l * 16 + n, by omega⟩ d)
        + ((∑ k : Fin 512, (∑ h : Fin 24, v6 (ix2 l h) * ∑ w : Fin 12, v0 (ix4 n w h k)) * v12 (ix2 k d))
        + ∑ k : Fin 512, (∑ h : Fin 24, v6 (ix2 l h) * ∑ w : Fin 12, v3 (ix4 n w h k)) * v16 (ix2 k d)) := by
  pointwise [k0_pay4, k0_pay2]

/-- Point `t`'s chunk of a weight matrix. -/
theorem rows_eq (t : Fin cfg0.N) : k0_off1 (grid0.coords t) = ![t.val % 4 * 512, 0] :=
  (by decide +kernel : ∀ t : Fin cfg0.N, k0_off1 (grid0.coords t) = ![t.val % 4 * 512, 0]) t

/-- What point `t` starts the accumulator with, at an index. -/
theorem start_at (t : Fin cfg0.N) (x0 x1 : Vec Ideal S16x12x24x512 .f32) (x2 : Vec Ideal S6x24 .f32) (x3 x4 : Vec Ideal S2048x192 .f32)
    (l : Fin 6) (n : Fin 16) (d : Fin 192) :
    accStart (grid0.coords t) x0 x1 x2 x3 x4 (ix2 ⟨l * 16 + n, by omega⟩ d)
      = (∑ k : Fin 512, (∑ h : Fin 24, x2 (ix2 l h) * ∑ w : Fin 12, x0 (ix4 n w h k)) * x3 (ix2 ⟨t.val % 4 * 512 + k, by omega⟩ d))
        + ∑ k : Fin 512, (∑ h : Fin 24, x2 (ix2 l h) * ∑ w : Fin 12, x1 (ix4 n w h k)) * x4 (ix2 ⟨t.val % 4 * 512 + k, by omega⟩ d) := by
  rw [accStart, pay3_at]
  pointwise []
  simp only [rows_eq, Matrix.cons_val_zero, Matrix.cons_val_one, zero_add, Fin.eta]

/-- What point `t` adds to the accumulator, at an index. -/
theorem add_at (t : Fin cfg0.N) (x0 x1 : Vec Ideal S16x12x24x512 .f32) (x2 : Vec Ideal S6x24 .f32) (x3 x4 : Vec Ideal S2048x192 .f32)
    (xs : Vec Ideal S96x192 .f32) (l : Fin 6) (n : Fin 16) (d : Fin 192) :
    accAdd (grid0.coords t) x0 x1 x2 x3 x4 xs (ix2 ⟨l * 16 + n, by omega⟩ d)
      = xs (ix2 ⟨l * 16 + n, by omega⟩ d)
        + ((∑ k : Fin 512, (∑ h : Fin 24, x2 (ix2 l h) * ∑ w : Fin 12, x0 (ix4 n w h k)) * x3 (ix2 ⟨t.val % 4 * 512 + k, by omega⟩ d))
        + ∑ k : Fin 512, (∑ h : Fin 24, x2 (ix2 l h) * ∑ w : Fin 12, x1 (ix4 n w h k)) * x4 (ix2 ⟨t.val % 4 * 512 + k, by omega⟩ d)) := by
  rw [accAdd, pay4_at]
  pointwise []
  simp only [rows_eq, Matrix.cons_val_zero, Matrix.cons_val_one, zero_add, Fin.eta]

variable (V : (c : Dev nD) → (b : Ref sig .tc) → Buf (Elt Ideal) ((c : Thread nD τ).loc b))

theorem index0_0 : ∀ t : Fin cfg0.N, win0_0.index t = ![t.val / 4, 0, 0, t.val % 4] := by decide +kernel
theorem index0_1 : ∀ t : Fin cfg0.N, win0_1.index t = ![t.val / 4, 0, 0, t.val % 4] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![0, t.val / 4, 0] := by decide +kernel

theorem points0 (t : Fin cfg0.N) : t.val < 32 := (by decide +kernel : ∀ t : Fin cfg0.N, t.val < 32) t

theorem blk0_0_at (c : Dev nD) (t : Fin cfg0.N) (n : Fin 16) (w : Fin 12) (h : Fin 24) (k : Fin 512) :
    (blk0 V c 0 t : Vec Ideal S16x12x24x512 .f32) (ix4 n w h k)
      = V c main_v0 (ix4 ⟨t.val / 4 * 16 + n, by have := points0 t; omega⟩ w h ⟨t.val % 4 * 512 + k, by omega⟩) := by
  blk_simp [blk0]
  refine congrArg (V c main_v0) ?_
  blk_ext [index0_0]

theorem blk0_1_at (c : Dev nD) (t : Fin cfg0.N) (n : Fin 16) (w : Fin 12) (h : Fin 24) (k : Fin 512) :
    (blk0 V c 1 t : Vec Ideal S16x12x24x512 .f32) (ix4 n w h k)
      = V c main_v1 (ix4 ⟨t.val / 4 * 16 + n, by have := points0 t; omega⟩ w h ⟨t.val % 4 * 512 + k, by omega⟩) := by
  blk_simp [blk0]
  refine congrArg (V c main_v1) ?_
  blk_ext [index0_1]

theorem blk0_2_at (c : Dev nD) (t : Fin cfg0.N) (l : Fin 6) (h : Fin 24) :
    (blk0 V c 2 t : Vec Ideal S6x24 .f32) (ix2 l h) = V c main_v9 (ix2 l h) := by
  blk_simp [blk0]
  refine congrArg (V c main_v9) ?_
  blk_ext [index0_2]

theorem blk0_3_at (c : Dev nD) (t : Fin cfg0.N) (k : Fin 2048) (d : Fin 192) :
    (blk0 V c 3 t : Vec Ideal S2048x192 .f32) (ix2 k d) = V c main_v32 (ix2 k d) := by
  blk_simp [blk0]
  refine congrArg (V c main_v32) ?_
  blk_ext [index0_3]

theorem blk0_4_at (c : Dev nD) (t : Fin cfg0.N) (k : Fin 2048) (d : Fin 192) :
    (blk0 V c 4 t : Vec Ideal S2048x192 .f32) (ix2 k d) = V c main_v36 (ix2 k d) := by
  blk_simp [blk0]
  refine congrArg (V c main_v36) ?_
  blk_ext [index0_4]

/-- The share of chunk `q` in the token of batch `b`, part `l`, channel `d`, over the pooled maps and their projections. -/
def share (x0 x1 : FVec Ideal S128x12x24x2048 .f32) (x2 : FVec Ideal S6x24 .f32) (x3 x4 : FVec Ideal S2048x192 .f32)
    (q : Fin 4) (l : Fin 6) (b : Fin 128) (d : Fin 192) : EReal :=
  (∑ k : Fin 512, (∑ h : Fin 24, x2 (ix2 l h) * ∑ w : Fin 12, x0 (ix4 b w h ⟨q * 512 + k, by omega⟩)) * x3 (ix2 ⟨q * 512 + k, by omega⟩ d))
  + ∑ k : Fin 512, (∑ h : Fin 24, x2 (ix2 l h) * ∑ w : Fin 12, x1 (ix4 b w h ⟨q * 512 + k, by omega⟩)) * x4 (ix2 ⟨q * 512 + k, by omega⟩ d)

/-- That share over the arrays the call finds. -/
def part (c : Dev nD) : Fin 4 → Fin 6 → Fin 128 → Fin 192 → EReal :=
  share (V c main_v0) (V c main_v1) (V c main_v9) (V c main_v32) (V c main_v36)

/-- At a batch block's first chunk the accumulator is the chunk's share. -/
theorem first_at (c : Dev nD) (t : Fin cfg0.N) (ht : t.val % 4 = 0) (l : Fin 6) (n : Fin 16) (d : Fin 192) :
    acc V c t.val t.isLt (ix2 ⟨l * 16 + n, by omega⟩ d)
      = part V c ⟨t.val % 4, by omega⟩ l ⟨t.val / 4 * 16 + n, by have := points0 t; omega⟩ d := by
  rw [acc_first V c t ht, start_at]
  simp only [blk0_0_at, blk0_1_at, blk0_2_at, blk0_3_at, blk0_4_at]
  rfl

/-- At a later chunk it is what it was plus the chunk's share. -/
theorem later_at (c : Dev nD) (t : Fin cfg0.N) (ht : ¬ t.val % 4 = 0) (h' : t.val - 1 < cfg0.N) (l : Fin 6) (n : Fin 16) (d : Fin 192) :
    acc V c t.val t.isLt (ix2 ⟨l * 16 + n, by omega⟩ d)
      = acc V c (t.val - 1) h' (ix2 ⟨l * 16 + n, by omega⟩ d)
        + part V c ⟨t.val % 4, by omega⟩ l ⟨t.val / 4 * 16 + n, by have := points0 t; omega⟩ d := by
  rw [acc_later V c t ht h', add_at]
  simp only [blk0_0_at, blk0_1_at, blk0_2_at, blk0_3_at, blk0_4_at]
  rfl

/-- At a batch block's last chunk it is the sum of the four chunks' shares. -/
theorem last_at (c : Dev nD) (t : Fin cfg0.N) (ht : t.val % 4 = 3) (l : Fin 6) (n : Fin 16) (d : Fin 192) :
    acc V c t.val t.isLt (ix2 ⟨l * 16 + n, by omega⟩ d)
      = ∑ q : Fin 4, part V c q l ⟨t.val / 4 * 16 + n, by have := points0 t; omega⟩ d := by
  have hN := points0 t
  have hlt := t.isLt
  rw [Fin.sum_univ_four, later_at V c t (by omega) (by omega),
    later_at V c ⟨t.val - 1, by omega⟩ (by show ¬ (t.val - 1) % 4 = 0; omega) (by show t.val - 1 - 1 < _; omega),
    later_at V c ⟨t.val - 1 - 1, by omega⟩ (by show ¬ (t.val - 1 - 1) % 4 = 0; omega) (by show t.val - 1 - 1 - 1 < _; omega),
    first_at V c ⟨t.val - 1 - 1 - 1, by omega⟩ (by show (t.val - 1 - 1 - 1) % 4 = 0; omega)]
  have e3 : (⟨t.val % 4, by omega⟩ : Fin 4) = 3 := Fin.ext ht
  have e2 : (⟨(t.val - 1) % 4, by omega⟩ : Fin 4) = 2 := Fin.ext (by show (t.val - 1) % 4 = 2; omega)
  have e1 : (⟨(t.val - 1 - 1) % 4, by omega⟩ : Fin 4) = 1 := Fin.ext (by show (t.val - 1 - 1) % 4 = 1; omega)
  have e0 : (⟨(t.val - 1 - 1 - 1) % 4, by omega⟩ : Fin 4) = 0 := Fin.ext (by show (t.val - 1 - 1 - 1) % 4 = 0; omega)
  have q2 : (t.val - 1) / 4 = t.val / 4 := by omega
  have q1 : (t.val - 1 - 1) / 4 = t.val / 4 := by omega
  have q0 : (t.val - 1 - 1 - 1) / 4 = t.val / 4 := by omega
  simp only [e3, e2, e1, e0, q2, q1, q0]

/-- The first call's array: every token as the sum of its chunks' shares. -/
def tokens (c : Dev nD) : FVec Ideal S6x128x192 .f32 := fun i => ∑ q : Fin 4, part V c q (i 0) (i 1) (i 2)

theorem pay1_at (v : Vec Ideal S96x192 .f32) (l : Fin 6) (n : Fin 16) (d : Fin 192) :
    k0_pay1 v (ix3 l n d) = v (ix2 ⟨l * 16 + n, by omega⟩ d) := by
  pointwise [k0_pay1]

theorem flush0_5 : ∀ t : Fin cfg0.N, (cfg0.win 5).flush t = true → t.val % 4 = 3 := by decide +kernel

/-- The first call leaves the tokens. -/
theorem tokens_eq (c : Dev nD) : (dat0 V c).arrAt 5 cfg0.N = tokens V c := by
  refine (dat0 V c).arrAt_eq_of_covers 5 _ (by decide +kernel) fun t hf y => ?_
  have ht := flush0_5 t hf
  blk_simp
  rw [after0_5]
  have hy : (y : S6x16x192.Idx) = ix3 (y 0) (y 1) (y 2) := by
    funext a
    match a with
    | ⟨0, _⟩ => rfl
    | ⟨1, _⟩ => rfl
    | ⟨2, _⟩ => rfl
  have e : (win0_5.blk t).view.emb y = (ix3 (y 0) ⟨t.val / 4 * 16 + (y 1).val, by have := points0 t; have h1 : (y 1).val < 16 := (y 1).isLt; omega⟩ (y 2) : S6x128x192.Idx) := by
    blk_ext [index0_5]
  rw [e]
  refine ((congrArg (k0_pay1 (acc V c t.val t.isLt)) hy).trans (pay1_at _ _ _ _)).trans ?_
  exact last_at V c t ht _ _ _

end Cert.KernelIdeal.Kern

end
-- ==== Proof.Math.Spec.lean ====
module

public import Idealize.ShloMosaic.Lib.Pointwise

@[expose] public section

set_option maxRecDepth 16384

noncomputable section

/- The mathematics both programs compute after the projected tokens, over plain coordinates: a selective scan over six
   tokens of 192 channels with 16 states a channel, a layer normalisation of each token, and a linear layer with a
   logistic over one half of the channels.  The last theorem: renumbering the channels renumbers the normalised tokens. -/

namespace Cert.Math

open Idealize.ShloMosaic

/-- `log (1 + e^x)`, written the way that does not overflow. -/
def softplus (x : EReal) : EReal := max x 0 + Ideal.log1p (Ideal.exp (-(FloatOps.absf (F := Ideal) (φ := .f32) x)))

/-- What the scan takes: the tokens and the layer's weights. -/
@[ext] structure In where
  /-- The tokens. -/
  X : Fin 128 → Fin 6 → Fin 192 → EReal
  /-- The projection to the step sizes' low rank. -/
  wdt : Fin 6 → Fin 192 → EReal
  /-- The projection to B. -/
  wB : Fin 16 → Fin 192 → EReal
  /-- The projection to C. -/
  wC : Fin 16 → Fin 192 → EReal
  /-- The step sizes' second projection. -/
  wd : Fin 192 → Fin 6 → EReal
  /-- The logarithms of the decay rates. -/
  A : Fin 192 → Fin 16 → EReal
  /-- The skip weights. -/
  D : Fin 192 → EReal
  /-- The normalisation's scale. -/
  g : Fin 192 → EReal
  /-- The normalisation's shift. -/
  lb : Fin 192 → EReal

variable (w : In) (b : Fin 128) (l : Fin 6)

/-- The step sizes' low rank. -/
def dtl (r : Fin 6) : EReal := ∑ d, w.X b l d * w.wdt r d
/-- The step sizes. -/
def dt (d : Fin 192) : EReal := softplus (∑ r, dtl w b l r * w.wd d r)
/-- What a state is fed through. -/
def Bm (n : Fin 16) : EReal := ∑ d, w.X b l d * w.wB n d
/-- What a state is read through. -/
def Cm (n : Fin 16) : EReal := ∑ d, w.X b l d * w.wC n d
/-- How much of a state a token keeps. -/
def dA (n : Fin 16) (d : Fin 192) : EReal := Ideal.exp (dt w b l d * -(Ideal.exp (w.A d n)))
/-- What a token feeds to a state. -/
def dBx (n : Fin 16) (d : Fin 192) : EReal := dt w b l d * w.X b l d * Bm w b l n
/-- The states after token `l` from the states before it. -/
def step (u : Fin 16 → Fin 192 → EReal) (n : Fin 16) (d : Fin 192) : EReal := dA w b l n d * u n d + dBx w b l n d
/-- The states after token `l`. -/
def state : Fin 6 → Fin 16 → Fin 192 → EReal :=
  ![dBx w b 0, step w b 1 (dBx w b 0), step w b 2 (step w b 1 (dBx w b 0)),
    step w b 3 (step w b 2 (step w b 1 (dBx w b 0))), step w b 4 (step w b 3 (step w b 2 (step w b 1 (dBx w b 0)))),
    step w b 5 (step w b 4 (step w b 3 (step w b 2 (step w b 1 (dBx w b 0)))))]
/-- A token's output. -/
def y (d : Fin 192) : EReal := (∑ n, state w b l n d * Cm w b l n) + w.X b l d * w.D d
/-- The mean over a token's channels. -/
def mean : EReal := Ideal.div (∑ d, y w b l d) (Ideal.ofBits .f32 0x43400000#32)
/-- A channel less the mean. -/
def cen (d : Fin 192) : EReal := y w b l d - mean w b l
/-- The variance. -/
def var : EReal := Ideal.div (∑ d, cen w b l d * cen w b l d) (Ideal.ofBits .f32 0x43400000#32)
/-- The normalised token. -/
def yln (d : Fin 192) : EReal :=
  cen w b l d * Ideal.rsqrt (var w b l + Ideal.ofBits .f32 0x3727C5AC#32) * w.g d + w.lb d

/-- The channels renumbered by `e`. -/
def reidx (e : Fin 192 ≃ Fin 192) : In where
  X b l d := w.X b l (e d)
  wdt r d := w.wdt r (e d)
  wB n d := w.wB n (e d)
  wC n d := w.wC n (e d)
  wd d := w.wd (e d)
  A d := w.A (e d)
  D d := w.D (e d)
  g d := w.g (e d)
  lb d := w.lb (e d)

variable (e : Fin 192 ≃ Fin 192)

theorem dtl_reidx (r : Fin 6) : dtl (reidx w e) b l r = dtl w b l r := Equiv.sum_comp e fun d => w.X b l d * w.wdt r d
theorem Bm_reidx (n : Fin 16) : Bm (reidx w e) b l n = Bm w b l n := Equiv.sum_comp e fun d => w.X b l d * w.wB n d
theorem Cm_reidx (n : Fin 16) : Cm (reidx w e) b l n = Cm w b l n := Equiv.sum_comp e fun d => w.X b l d * w.wC n d
theorem dt_reidx (d : Fin 192) : dt (reidx w e) b l d = dt w b l (e d) := by
  simp only [dt, dtl_reidx]; rfl
theorem dA_reidx (n : Fin 16) (d : Fin 192) : dA (reidx w e) b l n d = dA w b l n (e d) := by
  simp only [dA, dt_reidx]; rfl
theorem dBx_reidx (n : Fin 16) (d : Fin 192) : dBx (reidx w e) b l n d = dBx w b l n (e d) := by
  simp only [dBx, dt_reidx, Bm_reidx]; rfl
theorem step_reidx (u v : Fin 16 → Fin 192 → EReal) (h : ∀ n d, u n d = v n (e d)) (n : Fin 16) (d : Fin 192) :
    step (reidx w e) b l u n d = step w b l v n (e d) := by
  simp only [step, dA_reidx, dBx_reidx, h]
theorem state_reidx (n : Fin 16) (d : Fin 192) : state (reidx w e) b l n d = state w b l n (e d) := by
  have h0 := dBx_reidx w b 0 e
  have h1 := step_reidx w b 1 e _ _ h0
  have h2 := step_reidx w b 2 e _ _ h1
  have h3 := step_reidx w b 3 e _ _ h2
  have h4 := step_reidx w b 4 e _ _ h3
  have h5 := step_reidx w b 5 e _ _ h4
  match l with
  | 0 => exact h0 n d
  | 1 => exact h1 n d
  | 2 => exact h2 n d
  | 3 => exact h3 n d
  | 4 => exact h4 n d
  | 5 => exact h5 n d
theorem y_reidx (d : Fin 192) : y (reidx w e) b l d = y w b l (e d) := by
  simp only [y, state_reidx, Cm_reidx]; rfl
theorem mean_reidx : mean (reidx w e) b l = mean w b l := by
  simp only [mean, y_reidx]; rw [Equiv.sum_comp e fun d => y w b l d]
theorem cen_reidx (d : Fin 192) : cen (reidx w e) b l d = cen w b l (e d) := by
  simp only [cen, y_reidx, mean_reidx]
theorem var_reidx : var (reidx w e) b l = var w b l := by
  simp only [var, cen_reidx]; rw [Equiv.sum_comp e fun d => cen w b l d * cen w b l d]
/-- Renumbering the channels renumbers the normalised tokens. -/
theorem yln_reidx (d : Fin 192) : yln (reidx w e) b l d = yln w b l (e d) := by
  simp only [yln, cen_reidx, var_reidx]; rfl

/-- Channel `2c + p`. -/
def chan (p : Fin 2) (c : Fin 96) : Fin 192 := ⟨2 * c + p, by omega⟩

/-- One half's score of a category: channels `2c + p` of every token through the category's weights `cat`, plus the bias. -/
def score (p : Fin 2) (cat : Fin 2048 → Fin 6 → Fin 96 → EReal) (cb : Fin 2048 → EReal) (o : Fin 2048) : EReal :=
  Ideal.logistic ((∑ l, ∑ c, yln w b l (chan p c) * cat o l c) + cb o)

/-- The even channels, then the odd ones. -/
def perm : Fin 192 ≃ Fin 192 where
  toFun d := if h : d.val < 96 then ⟨2 * d.val, by omega⟩ else ⟨2 * (d.val - 96) + 1, by omega⟩
  invFun d := if h : d.val % 2 = 0 then ⟨d.val / 2, by omega⟩ else ⟨96 + d.val / 2, by omega⟩
  left_inv d := by
    apply Fin.ext
    by_cases h : d.val < 96
    · simp [h]
    · have h2 : ¬ (2 * (d.val - 96) + 1) % 2 = 0 := by omega
      simp only [h, dif_neg, not_false_eq_true, h2]; omega
  right_inv d := by
    apply Fin.ext
    by_cases h : d.val % 2 = 0
    · have h2 : d.val / 2 < 96 := by omega
      simp only [h, dif_pos, h2]; omega
    · have h2 : ¬ 96 + d.val / 2 < 96 := by omega
      simp only [h, dif_neg, not_false_eq_true, h2]; omega

theorem perm_val (d : Fin 192) : (perm d).val = if d.val < 96 then 2 * d.val else 2 * (d.val - 96) + 1 := by
  unfold perm; simp only [Equiv.coe_fn_mk]; split <;> rfl

end Cert.Math

end
-- ==== Proof.Math.Gather.lean ====
module

public import Idealize.ShloMosaic.Lib.Pointwise
public import Idealize.ShloMosaic.Lib.Routing.Ops
public import Idealize.ShloMosaic.Lib.Routing.OpsSet

@[expose] public section

set_option maxRecDepth 16384

noncomputable section

/- A take along a table's columns: the gather whose start indices number the columns of a two-axis table. -/

namespace Cert.Math

open Idealize.ShloMosaic

variable {α : Type} {R N n : ℕ} (d : GatherDims ⟨2, ![R, N]⟩ ⟨2, ![n, 1]⟩ ⟨2, ![R, n]⟩)
  (hoff : d.offsetDims = [0]) (hcoll : d.collapsedSliceDims = [1]) (hob : d.operandBatchingDims = [])
  (hsim : d.startIndexMap = [1]) (hivd : d.indexVectorDim = 1)

include hoff in
/-- The result's coordinate on an offset axis is its row. -/
theorem off_val (r : Fin R) (y : Fin n) (k) (hk : k ∈ d.offsetDims) : (ix2 r y k).val = r.val := by
  rw [hoff] at hk
  obtain rfl := List.mem_singleton.1 hk
  rfl

include hoff in
/-- The result's coordinate on a batch axis is its column. -/
theorem batch_val (r : Fin R) (y : Fin n) (k) (hk : k ∈ d.batchDims) : (ix2 r y k).val = y.val := by
  have hk' : k ∉ d.offsetDims := of_decide_eq_true (List.mem_filter.1 hk).2
  rw [hoff] at hk'
  match k with
  | ⟨0, _⟩ => exact absurd (List.mem_singleton.2 rfl) hk'
  | ⟨1, _⟩ => rfl

include hoff hcoll hob hsim hivd in
/-- Where the start indices hold column `b` at `y`, the take's column `y` is the table's column `b`. -/
theorem gather_col (x : (⟨2, ![R, N]⟩ : Shape).Idx → α) (idx : IVec ⟨2, ![n, 1]⟩ 32) (r : Fin R) (y : Fin n) (b : Fin N)
    (hb : idx (ix2 y 0) = BitVec.ofNat 32 b.val) (hN : N < 2 ^ 31) : Host.gather d x idx (ix2 r y) = x (ix2 r b) := by
  unfold Host.gather
  refine congrArg x (funext fun a => Fin.ext ?_)
  show d.start (ix2 r y) idx a + d.batchCoord (ix2 r y) a + d.offCoord (ix2 r y) a = _
  have hb0 : a ∉ d.operandBatchingDims := by rw [hob]; exact List.not_mem_nil
  rw [d.batchCoord_eq_zero _ _ hb0, Nat.add_zero]
  match a with
  | ⟨0, _⟩ =>
    have hm : (0 : Fin 2) ∉ d.startIndexMap := by rw [hsim]; simp
    have hk : (0 : Fin 2) ∈ d.sKept := (d.mem_sKept _).2 ⟨by rw [hcoll]; simp, hb0⟩
    show d.start (ix2 r y) idx (0 : Fin 2) + d.offCoord (ix2 r y) (0 : Fin 2) = r.val
    unfold GatherDims.start GatherDims.offCoord
    rw [dif_neg hm, dif_pos hk, Nat.zero_add]
    exact off_val d hoff r y _ (List.getElem_mem _)
  | ⟨1, _⟩ =>
    have hc : (1 : Fin 2) ∈ d.collapsedSliceDims := by rw [hcoll]; simp
    have hm : (1 : Fin 2) ∈ d.startIndexMap := by rw [hsim]; simp
    have hk : (1 : Fin 2) ∉ d.sKept := fun h => ((d.mem_sKept _).1 h).1 hc
    have hsl : d.sliceSizes 1 = 1 := d.slice_collapsed 1 hc
    show d.start (ix2 r y) idx (1 : Fin 2) + d.offCoord (ix2 r y) (1 : Fin 2) = b.val
    rw [d.offCoord_eq_zero _ _ hk, Nat.add_zero]
    unfold GatherDims.start
    rw [dif_pos hm]
    have hsi : d.siIdx (ix2 r y) ⟨d.startIndexMap.idxOf 1, List.idxOf_lt_length_iff.2 hm⟩ = ix2 y 0 := by
      funext b'
      apply Fin.ext
      match b' with
      | ⟨0, _⟩ =>
        unfold GatherDims.siIdx
        rw [dif_neg (by rw [hivd]; exact Nat.zero_ne_one)]
        unfold GatherDims.siCoord
        exact batch_val d hoff r y _ (List.getElem_mem _)
      | ⟨1, _⟩ =>
        have hl : d.startIndexMap.length = 1 := by rw [hsim]; rfl
        have := (d.siIdx (ix2 r y) ⟨d.startIndexMap.idxOf 1, List.idxOf_lt_length_iff.2 hm⟩ 1).isLt
        exact Nat.lt_one_iff.1 this
    have hbl := b.isLt
    have e : (idx (d.siIdx (ix2 r y) ⟨d.startIndexMap.idxOf 1, List.idxOf_lt_length_iff.2 hm⟩)).toInt.toNat = b.val := by
      rw [hsi, hb, StableHlo.Predicate.toInt_ofNat_small _ (by omega), Int.toNat_natCast]
    show min (idx (d.siIdx (ix2 r y) ⟨d.startIndexMap.idxOf 1, List.idxOf_lt_length_iff.2 hm⟩)).toInt.toNat (N - d.sliceSizes 1) = b.val
    rw [e, hsl]
    omega

/-- The host's sum over the last two of five axes, from zero. -/
theorem reduce34 {n0 n1 n2 n3 n4 : ℕ} (h : (⟨5, ![n0, n1, n2, n3, n4]⟩ : Shape).ReducesTo [3, 4] ⟨3, ![n0, n1, n2]⟩)
    (v : (⟨5, ![n0, n1, n2, n3, n4]⟩ : Shape).Idx → EReal) (i0 : Fin n0) (i1 : Fin n1) (i2 : Fin n2) :
    Ideal.hostReduceAdd h v 0 (ix3 i0 i1 i2) = ∑ k0 : Fin n3, ∑ k1 : Fin n4, v (ix5 i0 i1 i2 k0 k1) := by
  refine (zero_add _).trans ((Finset.sum_filter_eq_sum_of_fiber _ (fun k : Fin n3 × Fin n4 => ix5 i0 i1 i2 k.1 k.2)
    (fun _ _ e => Prod.ext (congrFun e 3) (congrFun e 4)) (fun i => ⟨fun e => ⟨(i 3, i 4), ?_⟩, ?_⟩) v).trans
      (Fintype.sum_prod_type _))
  · funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext b; apply Fin.ext
    match b with
    | ⟨0, _⟩ => rfl
    | ⟨1, _⟩ => rfl
    | ⟨2, _⟩ => rfl

/-- The constant 48, as the arrays hold it, is not zero. -/
theorem c48_ne : Ideal.ofBits .f32 0x42400000#32 ≠ 0 := by
  have h : Ideal.ofBits .f32 0x42400000#32 = ((48 : ℝ) : EReal) := by
    simp [Ideal.ofBits, Ideal.ieee, -EReal.coe_mul]; norm_num
  rw [h]
  exact_mod_cast (by norm_num : (48 : ℝ) ≠ 0)

/-- Dividing the weight by 48 is dividing what it multiplies. -/
theorem mul_div48 (s w : EReal) : s * Ideal.div w (Ideal.ofBits .f32 0x42400000#32) = Ideal.div s (Ideal.ofBits .f32 0x42400000#32) * w := by
  unfold Ideal.div
  rw [if_neg c48_ne, if_neg c48_ne, mul_comm w, mul_assoc]

/-- A gather of rows, at an index. -/
theorem gather_rows {α : Type} {nb B n : ℕ} (d : GatherDims ⟨2, ![nb, B]⟩ ⟨2, ![n, 1]⟩ ⟨2, ![n, B]⟩) (hoff : d.offsetDims = [1])
    (hcoll : d.collapsedSliceDims = [0]) (hob : d.operandBatchingDims = []) (hsim : d.startIndexMap = [0]) (hivd : d.indexVectorDim = 1)
    (x : (⟨2, ![nb, B]⟩ : Shape).Idx → α) (idx : IVec ⟨2, ![n, 1]⟩ 32) (c : Fin n) (y : Fin B) (b : Fin nb)
    (hb : idx (ix2 c 0) = BitVec.ofNat 32 b.val) (hnb : nb < 2 ^ 31) : Host.gather d x idx (ix2 c y) = x (ix2 b y) :=
  Routing.gather_row d hoff hcoll hob hsim hivd x idx c y b hb hnb

/-- A gather of single entries, at an index. -/
theorem gather_ones {α : Type} {N n : ℕ} (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1) (x : (⟨1, ![N]⟩ : Shape).Idx → α)
    (idx : IVec ⟨2, ![n, 1]⟩ 32) (p : Fin n) (b : Fin N) (hb : idx (ix2 p 0) = BitVec.ofNat 32 b.val) (hN : N < 2 ^ 31) :
    Host.gather d x idx (ix1 p) = x (ix1 b) :=
  Routing.gather_take1 d hcoll hob hsim hivd x idx p b hb hN

end Cert.Math

end
-- ==== Proof.Math.Token.lean ====
module

public import Idealize.ShloMosaic.Lib.Pointwise
public import proofs.«01_k».proof.Proof.Math.Gather

@[expose] public section

set_option maxRecDepth 16384

noncomputable section

/- Sums over a part's rows, over the chunks of channels, and over the interleaved pair of feature maps. -/

namespace Cert.Math

open Idealize.ShloMosaic

/-- Selecting a part's rows by a 0/1 weight sums its four rows. -/
theorem sum_part (l : Fin 6) (f : Fin 24 → EReal) :
    ∑ h : Fin 24, (if h.val / 4 = l.val then (1 : EReal) else 0) * f h = ∑ j : Fin 4, f ⟨l * 4 + j, by omega⟩ := by
  rw [Fin.sum_univ_tiles 6 4 rfl (fun h : Fin 24 => (if h.val / 4 = l.val then (1 : EReal) else 0) * f h)]
  rw [Finset.sum_eq_single l]
  · refine Finset.sum_congr rfl fun j _ => ?_
    have hj := j.isLt
    rw [if_pos (by show (l.val * 4 + j.val) / 4 = l.val; omega), one_mul]
  · intro l' _ hl
    refine Finset.sum_eq_zero fun j _ => ?_
    have hj := j.isLt
    rw [if_neg (by show ¬ (l'.val * 4 + j.val) / 4 = l.val; intro h; exact hl (Fin.ext (by omega))), zero_mul]
  · intro h; exact absurd (Finset.mem_univ l) h

/-- The four chunks of 512 channels make up the 2048. -/
theorem sum_chunks (f : Fin 2048 → EReal) : ∑ q : Fin 4, ∑ k : Fin 512, f ⟨q * 512 + k, by omega⟩ = ∑ c, f c :=
  (Fin.sum_univ_tiles 4 512 rfl f).symm

/-- A sum over the interleaved features, by channel. -/
theorem sum_pairs (f : Fin 4096 → EReal) : ∑ x, f x = ∑ c : Fin 2048, (f ⟨2 * c, by omega⟩ + f ⟨1 + 2 * c, by omega⟩) := by
  rw [Fin.sum_univ_tiles 2048 2 rfl f]
  refine Finset.sum_congr rfl fun c _ => ?_
  rw [Fin.sum_univ_two]
  exact congrArg₂ (· + ·) (congrArg f (Fin.ext (by show c.val * 2 + 0 = 2 * c.val; omega)))
    (congrArg f (Fin.ext (by show c.val * 2 + 1 = 1 + 2 * c.val; omega)))

/-- The token of two pooled maps: their means times the interleaved projection. -/
def token (p0 p1 : Fin 2048 → EReal) (w : Fin 4096 → EReal) : EReal :=
  ∑ c : Fin 2048, (Ideal.div (p0 c) (Ideal.ofBits .f32 0x42400000#32) * w ⟨2 * c, by omega⟩
    + Ideal.div (p1 c) (Ideal.ofBits .f32 0x42400000#32) * w ⟨1 + 2 * c, by omega⟩)

end Cert.Math

end
-- ==== Proof.Math.Result.lean ====
module

public import proofs.«01_k».proof.Proof.Math.Spec
public import proofs.«01_k».proof.Proof.Math.Token
public import Idealize.ShloMosaic.Lib.Pointwise

@[expose] public section

noncomputable section

/- The two results as one function of the twelve arguments: the scores over the even and over the odd channels. -/

namespace Cert.Math

open Idealize.ShloMosaic

/-- An array's contents, by its sizes. -/
abbrev Arr {n : ℕ} (size : Fin n → ℕ) := (⟨n, size⟩ : Shape).Idx → EReal

variable (a0 a1 : Arr ![128, 2048, 24, 12]) (a2 : Arr ![384, 4096]) (a3 : Arr ![384]) (a4 : Arr ![38, 192]) (a5 : Arr ![192, 6])
  (a6 : Arr ![192, 16]) (a7 a8 a9 : Arr ![192]) (a10 : Arr ![2048, 576]) (a11 : Arr ![2048])

/-- A map summed over a part's rows and over its columns. -/
def pool (a : Arr ![128, 2048, 24, 12]) (b : Fin 128) (l : Fin 6) (c : Fin 2048) : EReal :=
  ∑ j : Fin 4, ∑ w : Fin 12, a (ix4 b c ⟨l * 4 + j, by omega⟩ w)

/-- The scan's tokens and weights, of the arguments. -/
def inputs : In where
  X b l d := token (pool a0 b l) (pool a1 b l) (fun x => a2 (ix2 ⟨d, by omega⟩ x)) + a3 (ix1 ⟨d, by omega⟩)
  wdt r d := a4 (ix2 ⟨r, by omega⟩ d)
  wB n d := a4 (ix2 ⟨6 + n, by omega⟩ d)
  wC n d := a4 (ix2 ⟨22 + n, by omega⟩ d)
  wd d r := a5 (ix2 d r)
  A d n := a6 (ix2 d n)
  D d := a7 (ix1 d)
  g d := a8 (ix1 d)
  lb d := a9 (ix1 d)

/-- The result over the channels of parity `p`. -/
def result (p : Fin 2) : Arr ![128, 2048, 1, 1] := fun i =>
  score (inputs a0 a1 a2 a3 a4 a5 a6 a7 a8 a9) (i 0) p (fun o l c => a10 (ix2 o ⟨c * 6 + l, by omega⟩)) (fun o => a11 (ix1 o)) (i 1)

/-- Equal arguments give equal results. -/
theorem result_congr {a0 a0' a1 a1' : Arr ![128, 2048, 24, 12]} {a2 a2' : Arr ![384, 4096]} {a3 a3' : Arr ![384]} {a4 a4' : Arr ![38, 192]}
    {a5 a5' : Arr ![192, 6]} {a6 a6' : Arr ![192, 16]} {a7 a7' a8 a8' a9 a9' : Arr ![192]} {a10 a10' : Arr ![2048, 576]} {a11 a11' : Arr ![2048]}
    (h0 : a0 = a0') (h1 : a1 = a1') (h2 : a2 = a2') (h3 : a3 = a3') (h4 : a4 = a4') (h5 : a5 = a5') (h6 : a6 = a6') (h7 : a7 = a7')
    (h8 : a8 = a8') (h9 : a9 = a9') (h10 : a10 = a10') (h11 : a11 = a11') (p : Fin 2) :
    result a0 a1 a2 a3 a4 a5 a6 a7 a8 a9 a10 a11 p = result a0' a1' a2' a3' a4' a5' a6' a7' a8' a9' a10' a11' p := by
  subst h0 h1 h2 h3 h4 h5 h6 h7 h8 h9 h10 h11
  rfl

end Cert.Math

end
-- ==== Proof.Math.KerToken.lean ====
module

public import proofs.«01_k».proof.Proof.Math.PoolAt
public import proofs.«01_k».proof.Proof.Math.Result

@[expose] public section

set_option maxRecDepth 16384

noncomputable section

/- The first call's tokens over the transposed maps, the parts' selector and the projection over 48: the two pooled maps'
   means, projected. -/

namespace Cert.KernelIdeal.Kern

open Cert.KernelIdeal Cert.KernelIdeal.Gen
open Idealize.ShloMosaic Idealize.ShloMosaic.TcCoe Idealize.SL.Sem Idealize.ShloMosaic.StableHlo
open Cert.Math (perm token pool)

/-- A chunk's share over arrays that hold the transposed maps, the parts' selector and the projection over 48. -/
theorem share_of (x0 x1 : FVec Ideal S128x12x24x2048 .f32) (x2 : FVec Ideal S6x24 .f32) (x3 x4 : FVec Ideal S2048x192 .f32)
    (a0 a1 : FVec Ideal S128x2048x24x12 .f32) (wt : Fin 192 → Fin 4096 → EReal)
    (h0 : ∀ n w h c, x0 (ix4 n w h c) = a0 (ix4 n c h w)) (h1 : ∀ n w h c, x1 (ix4 n w h c) = a1 (ix4 n c h w))
    (h2 : ∀ l h, x2 (ix2 l h) = (if h.val / 4 = l.val then (1 : EReal) else 0))
    (h3 : ∀ (c : Fin 2048) (d : Fin 192), x3 (ix2 c d) = Ideal.div (wt d ⟨2 * c, by omega⟩) (Ideal.ofBits .f32 0x42400000#32))
    (h4 : ∀ (c : Fin 2048) (d : Fin 192), x4 (ix2 c d) = Ideal.div (wt d ⟨1 + 2 * c, by omega⟩) (Ideal.ofBits .f32 0x42400000#32))
    (q : Fin 4) (l : Fin 6) (b : Fin 128) (d : Fin 192) :
    share x0 x1 x2 x3 x4 q l b d
      = (∑ k : Fin 512, Ideal.div (pool a0 b l ⟨q * 512 + k, by omega⟩) (Ideal.ofBits .f32 0x42400000#32) * wt d ⟨2 * (q * 512 + k), by omega⟩)
        + ∑ k : Fin 512, Ideal.div (pool a1 b l ⟨q * 512 + k, by omega⟩) (Ideal.ofBits .f32 0x42400000#32) * wt d ⟨1 + 2 * (q * 512 + k), by omega⟩ := by
  unfold share
  simp only [h0, h1, h2, h3, h4, Math.sum_part, Math.mul_div48]
  rfl

/-- The first call's tokens over such arrays. -/
theorem tokens_of (V : (c : Dev nD) → (b : Ref sig .tc) → Buf (Elt Ideal) ((c : Thread nD τ).loc b)) (c : Dev nD)
    (a0 a1 : FVec Ideal S128x2048x24x12 .f32) (wt : Fin 192 → Fin 4096 → EReal)
    (h0 : ∀ n w h k, (V c main_v0 : FVec Ideal S128x12x24x2048 .f32) (ix4 n w h k) = a0 (ix4 n k h w))
    (h1 : ∀ n w h k, (V c main_v1 : FVec Ideal S128x12x24x2048 .f32) (ix4 n w h k) = a1 (ix4 n k h w))
    (h2 : ∀ l h, (V c main_v9 : FVec Ideal S6x24 .f32) (ix2 l h) = (if h.val / 4 = l.val then (1 : EReal) else 0))
    (h3 : ∀ (k : Fin 2048) (d : Fin 192), (V c main_v32 : FVec Ideal S2048x192 .f32) (ix2 k d) = Ideal.div (wt d ⟨2 * k, by omega⟩) (Ideal.ofBits .f32 0x42400000#32))
    (h4 : ∀ (k : Fin 2048) (d : Fin 192), (V c main_v36 : FVec Ideal S2048x192 .f32) (ix2 k d) = Ideal.div (wt d ⟨1 + 2 * k, by omega⟩) (Ideal.ofBits .f32 0x42400000#32))
    (l : Fin 6) (b : Fin 128) (d : Fin 192) :
    tokens V c (ix3 l b d) = token (pool a0 b l) (pool a1 b l) (wt d) := by
  show ∑ q, part V c q l b d = _
  refine (Finset.sum_congr rfl fun q _ => share_of _ _ _ _ _ a0 a1 wt h0 h1 h2 h3 h4 q l b d).trans ?_
  rw [Finset.sum_add_distrib, token, Finset.sum_add_distrib, ← Math.sum_chunks, ← Math.sum_chunks]

end Cert.KernelIdeal.Kern

end
-- ==== Proof.Math.Host.lean ====
module

public import proofs.«01_k».proof.Proof.Gen.KernelIdeal.Launch
public import Idealize.ShloMosaic.Lib.StableHlo.RunRead
public import Idealize.ShloMosaic.Lib.Claim

@[expose] public section

set_option maxRecDepth 16384

noncomputable section

/- What the host operations before the first pallas_call leave in the arrays the two calls read, as terms of the
   program's arguments. -/

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The even channels, then the odd ones, as words. -/
def permWord : IVec S192 32 :=
  concatenate S192 0 [⟨S96, addi (broadcastInDim S96 ![] bcast_S_S96 (constantI S_ 32 0#32)) (muli (broadcastInDim S96 ![] bcast_S_S96 (constantI S_ 32 2#32)) (iotaInDim S96 32 0))⟩, ⟨S96, addi (broadcastInDim S96 ![] bcast_S_S96 (constantI S_ 32 1#32)) (muli (broadcastInDim S96 ![] bcast_S_S96 (constantI S_ 32 2#32)) (iotaInDim S96 32 0))⟩] concatenates_S96_S96_S192_d0

/-- The column of start indices a gather takes from them: a negative one counted from the end. -/
def permIx : IVec S192x1 32 :=
  broadcastInDim S192x1 ![0] bcast_S192_S192x1_0 (select (cmpi .slt permWord (broadcastInDim S192 ![] bcast_S_S192 (constantI S_ 32 0#32))) (addi permWord (broadcastInDim S192 ![] bcast_S_S192 (constantI S_ 32 192#32))) permWord)

variable (V : Valuation τ sig (Elt F))

/-- The first feature map, channels last. -/
theorem v0 : after hostOps0 V (Proc.devRef .tc main_v0)
    = transpose S128x12x24x2048 [0, 3, 2, 1] (V (Proc.devRef .tc main_arg0)) transposes_S128x2048x24x12_S128x12x24x2048_0_3_2_1 := by
  after_reads_simp

/-- The second feature map, channels last. -/
theorem v1 : after hostOps0 V (Proc.devRef .tc main_v1)
    = transpose S128x12x24x2048 [0, 3, 2, 1] (V (Proc.devRef .tc main_arg1)) transposes_S128x2048x24x12_S128x12x24x2048_0_3_2_1 := by
  after_reads_simp

/-- The selector of the four rows of a part. -/
theorem v9 : after hostOps0 V (Proc.devRef .tc main_v9)
    = shapeCast S6x24 (broadcastInDim S6x6x4 ![0, 1] bcast_S6x6_S6x6x4_0_1 (uitofp (F := F) .f32 (cmpi .eq (addi (iotaInDim S6x6 32 0) (broadcastInDim S6x6 ![] bcast_S_S6x6 (constantI S_ 32 0#32))) (iotaInDim S6x6 32 1)))) shapeCasts_S6x6x4_S6x24 := by
  after_reads_simp
  rfl

/-- The projection of the first map's channels over 48. -/
theorem v32 : after hostOps0 V (Proc.devRef .tc main_v32)
    = Host.divf (transpose S2048x192 [1, 0] (Host.slice S192x2048 ![0, 0] ![1, 2] (Host.gather gather_S192x4096_S192x1_S192x4096_1_0_n_n_0_1_14096 (extractStridedSlice S192x4096 ![0, 0] (V (Proc.devRef .tc main_arg2)) slices_S384x4096_S192x4096_0_0) permIx) slicesBy_S192x4096_S192x2048_0s1_0s2) transposes_S192x2048_S2048x192_1_0) (broadcastInDim S2048x192 ![] bcast_S_S2048x192 (constant S_ .f32 0x42400000#32)) := by
  after_reads_simp
  after_results_loop
  rfl

/-- The projection of the second map's channels over 48. -/
theorem v36 : after hostOps0 V (Proc.devRef .tc main_v36)
    = Host.divf (transpose S2048x192 [1, 0] (Host.slice S192x2048 ![0, 1] ![1, 2] (Host.gather gather_S192x4096_S192x1_S192x4096_1_0_n_n_0_1_14096 (extractStridedSlice S192x4096 ![0, 0] (V (Proc.devRef .tc main_arg2)) slices_S384x4096_S192x4096_0_0) permIx) slicesBy_S192x4096_S192x2048_0s1_1s2) transposes_S192x2048_S2048x192_1_0) (broadcastInDim S2048x192 ![] bcast_S_S2048x192 (constant S_ .f32 0x42400000#32)) := by
  after_reads_simp
  after_results_loop
  rfl

/-- The bias. -/
theorem v45 : after hostOps0 V (Proc.devRef .tc main_v45)
    = shapeCast S1x192 (Host.gather gather_S192_S192x1_S192_n_0_n_n_0_1_1 (extractStridedSlice S192 ![0] (V (Proc.devRef .tc main_arg3)) slices_S384_S192_0) permIx) shapeCasts_S192_S1x192 := by
  after_reads_simp
  after_results_loop
  rfl

/-- The weights of the step sizes' low rank. -/
theorem v53 : after hostOps0 V (Proc.devRef .tc main_v53)
    = Host.gather gather_S6x192_S192x1_S6x192_0_1_n_n_1_1_61 (extractStridedSlice S6x192 ![0, 0] (V (Proc.devRef .tc main_arg4)) slices_S38x192_S6x192_0_0) permIx := by
  after_reads_simp
  after_results_loop
  rfl

/-- The weights of B and C. -/
theorem v61 : after hostOps0 V (Proc.devRef .tc main_v61)
    = Host.gather gather_S32x192_S192x1_S32x192_0_1_n_n_1_1_321 (extractStridedSlice S32x192 ![6, 0] (V (Proc.devRef .tc main_arg4)) slices_S38x192_S32x192_6_0) permIx := by
  after_reads_simp
  after_results_loop
  rfl

/-- The weights of the step sizes. -/
theorem v69 : after hostOps0 V (Proc.devRef .tc main_v69)
    = transpose S6x192 [1, 0] (Host.gather gather_S192x6_S192x1_S192x6_1_0_n_n_0_1_16 (V (Proc.devRef .tc main_arg5)) permIx) transposes_S192x6_S6x192_1_0 := by
  after_reads_simp
  after_results_loop
  rfl

/-- The logarithms of the decay rates. -/
theorem v77 : after hostOps0 V (Proc.devRef .tc main_v77)
    = transpose S16x192 [1, 0] (Host.gather gather_S192x16_S192x1_S192x16_1_0_n_n_0_1_116 (V (Proc.devRef .tc main_arg6)) permIx) transposes_S192x16_S16x192_1_0 := by
  after_reads_simp
  after_results_loop
  rfl

/-- The skip weights. -/
theorem v85 : after hostOps0 V (Proc.devRef .tc main_v85)
    = shapeCast S1x1x192 (Host.gather gather_S192_S192x1_S192_n_0_n_n_0_1_1 (V (Proc.devRef .tc main_arg7)) permIx) shapeCasts_S192_S1x1x192 := by
  after_reads_simp
  after_results_loop
  rfl

/-- The normalisation's scale. -/
theorem v93 : after hostOps0 V (Proc.devRef .tc main_v93)
    = shapeCast S1x192 (Host.gather gather_S192_S192x1_S192_n_0_n_n_0_1_1 (V (Proc.devRef .tc main_arg8)) permIx) shapeCasts_S192_S1x192 := by
  after_reads_simp
  after_results_loop
  rfl

/-- The normalisation's shift. -/
theorem v101 : after hostOps0 V (Proc.devRef .tc main_v101)
    = shapeCast S1x192 (Host.gather gather_S192_S192x1_S192_n_0_n_n_0_1_1 (V (Proc.devRef .tc main_arg9)) permIx) shapeCasts_S192_S1x192 := by
  after_reads_simp
  after_results_loop
  rfl

/-- The category weights, token first. -/
theorem v103 : after hostOps0 V (Proc.devRef .tc main_v103)
    = transpose S6x96x2048 [2, 1, 0] (shapeCast S2048x96x6 (V (Proc.devRef .tc main_arg10)) shapeCasts_S2048x576_S2048x96x6) transposes_S2048x96x6_S6x96x2048_2_1_0 := by
  after_reads_simp
  rfl

/-- The category bias. -/
theorem v104 : after hostOps0 V (Proc.devRef .tc main_v104)
    = shapeCast S1x2048 (V (Proc.devRef .tc main_arg11)) shapeCasts_S2048_S1x2048 := by
  after_reads_simp
  rfl

end Cert.KernelIdeal.Host

end
-- ==== Proof.Math.HostAt.lean ====
module

public import proofs.«01_k».proof.Proof.Math.Host
public import proofs.«01_k».proof.Proof.Math.Spec
public import proofs.«01_k».proof.Proof.Math.Gather

@[expose] public section

set_option maxRecDepth 16384

noncomputable section

/- The arrays the two calls read, at an index: the program's arguments with the channels renumbered by
   `Cert.Math.perm`, the projection's weights over 48, and the selector of a part's rows. -/

namespace Cert.KernelIdeal.Host

open Cert.KernelIdeal Cert.KernelIdeal.Gen
open Idealize.ShloMosaic Idealize.ShloMosaic.TcCoe Idealize.SL.Sem Idealize.ShloMosaic.StableHlo
open Cert.Math (perm gather_col gather_rows gather_ones)

/-- The words count the even channels, then the odd ones. -/
theorem permWord_at (d : Fin 192) : permWord (ix1 d) = BitVec.ofNat 32 (perm d).val := by
  pointwise [permWord]
  rw [Math.perm_val]
  by_cases h : d.val < 96
  · rw [dif_pos h, if_pos h]
    refine BitVec.eq_of_toNat_eq ?_
    simp [IntOp.addi, IntOp.muli]
  · rw [dif_neg h, if_neg h]
    refine BitVec.eq_of_toNat_eq ?_
    simp [IntOp.addi, IntOp.muli, Nat.add_comm]

/-- The start index of row `d`. -/
theorem permIx_at (d : Fin 192) : permIx (ix2 d 0) = BitVec.ofNat 32 (perm d).val := by
  pointwise [permIx]
  simp only [permWord_at]
  have h : (BitVec.ofNat 32 (perm d).val).slt 0#32 = false := by
    have := (perm d).isLt
    unfold BitVec.slt
    rw [Predicate.toInt_ofNat_small _ (by omega)]
    simp
  have h' : IntOp.cmpi CmpIPredicate.slt (BitVec.ofNat 32 (perm d).val) 0#32 = 0#1 := by
    show BitVec.ofBool ((BitVec.ofNat 32 (perm d).val).slt 0#32) = _
    rw [h]; rfl
  rw [h']
  rfl

variable (V : Valuation τ sig (Elt Ideal))

/-- The first feature map at an index. -/
theorem v0_at (n : Fin 128) (w : Fin 12) (h : Fin 24) (c : Fin 2048) :
    (after hostOps0 V (Proc.devRef .tc main_v0) : FVec Ideal S128x12x24x2048 .f32) (ix4 n w h c) = V (Proc.devRef .tc main_arg0) (ix4 n c h w) := by
  rw [v0]; pointwise []

/-- The second feature map at an index. -/
theorem v1_at (n : Fin 128) (w : Fin 12) (h : Fin 24) (c : Fin 2048) :
    (after hostOps0 V (Proc.devRef .tc main_v1) : FVec Ideal S128x12x24x2048 .f32) (ix4 n w h c) = V (Proc.devRef .tc main_arg1) (ix4 n c h w) := by
  rw [v1]; pointwise []

/-- The selector: row `h` of a map belongs to part `h / 4`. -/
theorem v9_at (l : Fin 6) (h : Fin 24) :
    (after hostOps0 V (Proc.devRef .tc main_v9) : FVec Ideal S6x24 .f32) (ix2 l h) = (if h.val / 4 = l.val then (1 : EReal) else 0) := by
  rw [v9]
  pointwise []
  have hh := h.isLt
  have hl := l.isLt
  have e : IntOp.cmpi CmpIPredicate.eq (IntOp.addi (BitVec.ofNat 32 l.val) 0#32) (BitVec.ofNat 32 (h.val / 4))
      = BitVec.ofBool (decide (h.val / 4 = l.val)) := by
    show BitVec.ofBool (BitVec.ofNat 32 l.val + 0#32 == BitVec.ofNat 32 (h.val / 4)) = _
    refine congrArg BitVec.ofBool ?_
    rw [BitVec.add_zero, Bool.eq_iff_iff]
    simp only [beq_iff_eq, decide_eq_true_eq, ← BitVec.toNat_inj, BitVec.toNat_ofNat]
    omega
  rw [e]
  by_cases hc : h.val / 4 = l.val
  · rw [if_pos hc, decide_eq_true hc]
    show (((BitVec.ofBool true).toNat : ℝ) : EReal) = 1
    simp
  · rw [if_neg hc, decide_eq_false hc]
    show (((BitVec.ofBool false).toNat : ℝ) : EReal) = 0
    simp

/-- The first map's projection at an index. -/
theorem v32_at (c : Fin 2048) (d : Fin 192) :
    (after hostOps0 V (Proc.devRef .tc main_v32) : FVec Ideal S2048x192 .f32) (ix2 c d)
      = Ideal.div (V (Proc.devRef .tc main_arg2) (ix2 ⟨perm d, by omega⟩ ⟨2 * c, by omega⟩)) (Ideal.ofBits .f32 0x42400000#32) := by
  rw [v32]
  pointwise []
  set_option backward.isDefEq.respectTransparency false in
  rw [gather_rows _ rfl rfl rfl rfl rfl _ _ d _ (perm d) (permIx_at d) (by norm_num)]
  pointwise []

/-- The second map's projection at an index. -/
theorem v36_at (c : Fin 2048) (d : Fin 192) :
    (after hostOps0 V (Proc.devRef .tc main_v36) : FVec Ideal S2048x192 .f32) (ix2 c d)
      = Ideal.div (V (Proc.devRef .tc main_arg2) (ix2 ⟨perm d, by omega⟩ ⟨1 + 2 * c, by omega⟩)) (Ideal.ofBits .f32 0x42400000#32) := by
  rw [v36]
  pointwise []
  set_option backward.isDefEq.respectTransparency false in
  rw [gather_rows _ rfl rfl rfl rfl rfl _ _ d _ (perm d) (permIx_at d) (by norm_num)]
  pointwise []

/-- The bias at an index. -/
theorem v45_at (d : Fin 192) :
    (after hostOps0 V (Proc.devRef .tc main_v45) : FVec Ideal S1x192 .f32) (ix2 0 d) = V (Proc.devRef .tc main_arg3) (ix1 ⟨perm d, by omega⟩) := by
  rw [v45]
  pointwise []
  set_option backward.isDefEq.respectTransparency false in
  rw [gather_ones _ rfl rfl rfl rfl _ _ d (perm d) (permIx_at d) (by norm_num)]
  pointwise []

/-- The step sizes' low-rank weights at an index. -/
theorem v53_at (r : Fin 6) (d : Fin 192) :
    (after hostOps0 V (Proc.devRef .tc main_v53) : FVec Ideal S6x192 .f32) (ix2 r d) = V (Proc.devRef .tc main_arg4) (ix2 ⟨r, by omega⟩ (perm d)) := by
  rw [v53, gather_col _ rfl rfl rfl rfl rfl _ _ r d (perm d) (permIx_at d) (by norm_num)]
  pointwise []

/-- B's and C's weights at an index. -/
theorem v61_at (n : Fin 32) (d : Fin 192) :
    (after hostOps0 V (Proc.devRef .tc main_v61) : FVec Ideal S32x192 .f32) (ix2 n d) = V (Proc.devRef .tc main_arg4) (ix2 ⟨6 + n, by omega⟩ (perm d)) := by
  rw [v61, gather_col _ rfl rfl rfl rfl rfl _ _ n d (perm d) (permIx_at d) (by norm_num)]
  pointwise []

/-- The step sizes' weights at an index. -/
theorem v69_at (r : Fin 6) (d : Fin 192) :
    (after hostOps0 V (Proc.devRef .tc main_v69) : FVec Ideal S6x192 .f32) (ix2 r d) = V (Proc.devRef .tc main_arg5) (ix2 (perm d) r) := by
  rw [v69]
  pointwise []
  set_option backward.isDefEq.respectTransparency false in
  rw [gather_rows _ rfl rfl rfl rfl rfl _ _ d _ (perm d) (permIx_at d) (by norm_num)]

/-- The decay rates' logarithms at an index. -/
theorem v77_at (n : Fin 16) (d : Fin 192) :
    (after hostOps0 V (Proc.devRef .tc main_v77) : FVec Ideal S16x192 .f32) (ix2 n d) = V (Proc.devRef .tc main_arg6) (ix2 (perm d) n) := by
  rw [v77]
  pointwise []
  set_option backward.isDefEq.respectTransparency false in
  rw [gather_rows _ rfl rfl rfl rfl rfl _ _ d _ (perm d) (permIx_at d) (by norm_num)]

/-- The skip weights at an index. -/
theorem v85_at (d : Fin 192) :
    (after hostOps0 V (Proc.devRef .tc main_v85) : FVec Ideal S1x1x192 .f32) (ix3 0 0 d) = V (Proc.devRef .tc main_arg7) (ix1 (perm d)) := by
  rw [v85]
  pointwise []
  set_option backward.isDefEq.respectTransparency false in
  rw [gather_ones _ rfl rfl rfl rfl _ _ d (perm d) (permIx_at d) (by norm_num)]

/-- The normalisation's scale at an index. -/
theorem v93_at (d : Fin 192) :
    (after hostOps0 V (Proc.devRef .tc main_v93) : FVec Ideal S1x192 .f32) (ix2 0 d) = V (Proc.devRef .tc main_arg8) (ix1 (perm d)) := by
  rw [v93]
  pointwise []
  set_option backward.isDefEq.respectTransparency false in
  rw [gather_ones _ rfl rfl rfl rfl _ _ d (perm d) (permIx_at d) (by norm_num)]

/-- The normalisation's shift at an index. -/
theorem v101_at (d : Fin 192) :
    (after hostOps0 V (Proc.devRef .tc main_v101) : FVec Ideal S1x192 .f32) (ix2 0 d) = V (Proc.devRef .tc main_arg9) (ix1 (perm d)) := by
  rw [v101]
  pointwise []
  set_option backward.isDefEq.respectTransparency false in
  rw [gather_ones _ rfl rfl rfl rfl _ _ d (perm d) (permIx_at d) (by norm_num)]

/-- The category weights at an index. -/
theorem v103_at (l : Fin 6) (c : Fin 96) (o : Fin 2048) :
    (after hostOps0 V (Proc.devRef .tc main_v103) : FVec Ideal S6x96x2048 .f32) (ix3 l c o) = V (Proc.devRef .tc main_arg10) (ix2 o ⟨c * 6 + l, by omega⟩) := by
  rw [v103]; pointwise []

/-- The category bias at an index. -/
theorem v104_at (o : Fin 2048) :
    (after hostOps0 V (Proc.devRef .tc main_v104) : FVec Ideal S1x2048 .f32) (ix2 0 o) = V (Proc.devRef .tc main_arg11) (ix1 o) := by
  rw [v104]; pointwise []

end Cert.KernelIdeal.Host

end
-- ==== Proof.Math.ScanAt.lean ====
module

public import proofs.«01_k».proof.Proof.Kern.Scan
public import Idealize.ShloMosaic.Lib.Pointwise
public import Idealize.ShloMosaic.Lib.Pipeline.ValueKit

@[expose] public section

set_option maxRecDepth 16384

noncomputable section

/- The second call's one grid point covers its arrays: what it reads are the arrays it finds, and what it leaves is its two
   outputs over them. -/

namespace Cert.KernelIdeal.Kern

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD) (t : Fin cfg1.N)

/-- Every window's block index is zero. -/
theorem index1 : ∀ (w : Fin cfg1.W) (t : Fin cfg1.N), ∀ a, (cfg1.win w).index t a = 0 := by decide +kernel

/-- The arrays the call finds. -/
def whole : Ins Ideal :=
  ⟨V c main_v105, V c main_v45, V c main_v53, V c main_v69, V c main_v61, V c main_v77, V c main_v85, V c main_v93, V c main_v101, V c main_v103, V c main_v104⟩

set_option maxHeartbeats 1600000 in
/-- What the point reads are the arrays the call finds. -/
theorem ins_eq : ins V c t = whole V c := by
  unfold ins whole
  congr 1
  all_goals
    funext y
    blk_simp [blk1]
    refine congrArg _ ?_
    blk_ext [index1 0 t, index1 1 t, index1 2 t, index1 3 t, index1 4 t, index1 5 t, index1 6 t, index1 7 t, index1 8 t, index1 9 t, index1 10 t]

/-- The first output. -/
theorem vis_arr : (dat1 V c).arrAt 11 cfg1.N = visOut (whole V c) := by
  refine (dat1 V c).arrAt_eq_of_covers 11 _ (by decide +kernel) fun t hf y => ?_
  blk_simp
  rw [after1_11, ins_eq]
  exact congrArg (visOut (whole V c)) (by blk_ext [index1 11 t])

/-- The second output. -/
theorem inf_arr : (dat1 V c).arrAt 12 cfg1.N = infOut (whole V c) := by
  refine (dat1 V c).arrAt_eq_of_covers 12 _ (by decide +kernel) fun t hf y => ?_
  blk_simp
  rw [after1_12, ins_eq]
  exact congrArg (infOut (whole V c)) (by blk_ext [index1 12 t])

end Cert.KernelIdeal.Kern

end
-- ==== Proof.Math.Steps.lean ====
module

public import proofs.«01_k».proof.Proof.Kern.Scan
public import proofs.«01_k».proof.Proof.Math.Spec

@[expose] public section

set_option maxRecDepth 16384

noncomputable section

/- The second call's values at an index, up to the states after each token: the projections of the tokens, the step
   sizes and the states of `Cert.Math`, over the weights the call's blocks hold. -/

namespace Cert.KernelIdeal.Kern

open Cert.KernelIdeal Cert.KernelIdeal.Gen
open Idealize.ShloMosaic Idealize.ShloMosaic.TcCoe
open Cert.Math (In)

variable (I : Ins Ideal)

/-- The scan's tokens and weights as the call's input blocks hold them. -/
def inOf : In where
  X b l d := I.x0 (ix3 l b d) + I.x1 (ix2 0 d)
  wdt r d := I.x2 (ix2 r d)
  wB n d := I.x4 (ix2 ⟨n, by omega⟩ d)
  wC n d := I.x4 (ix2 ⟨16 + n, by omega⟩ d)
  wd d r := I.x3 (ix2 r d)
  A d n := I.x5 (ix2 n d)
  D d := I.x6 (ix3 0 0 d)
  g d := I.x7 (ix2 0 d)
  lb d := I.x8 (ix2 0 d)

variable (n : Fin 16) (b : Fin 128) (l : Fin 6) (d : Fin 192)

/-- A token's channel. -/
theorem xt3_at : xt3 I (ix3 l b d) = (inOf I).X b l d := by
  pointwise [xt3, k1_pay3, r1_0, r1_1]
  rfl

/-- The rows of B and C at any column. -/
theorem bct_at (n : Fin 32) (r : Fin 768) :
    bct I (ix2 n r) = ∑ d, I.x4 (ix2 n d) * (inOf I).X ⟨r.val % 128, by omega⟩ ⟨r.val / 128, by omega⟩ d := by
  pointwise [bct, k1_pay5, k1_pay4, k1_pay3, r1_0, r1_1, r1_3]
  rfl

/-- A column's token and batch from its number. -/
theorem X_col (o : ℕ) (l : Fin 6) (ho : o = 128 * l.val) (h : (o + b.val) % 128 < 128) (h' : (o + b.val) / 128 < 6) (d : Fin 192) :
    (inOf I).X ⟨(o + b.val) % 128, h⟩ ⟨(o + b.val) / 128, h'⟩ d = (inOf I).X b l d := by
  have e1 : (⟨(o + b.val) % 128, h⟩ : Fin 128) = b := Fin.ext (by simp only; omega)
  have e2 : (⟨(o + b.val) / 128, h'⟩ : Fin 6) = l := Fin.ext (by simp only; omega)
  rw [e1, e2]

/-- B's row `n` at token `l`, whose columns start at `o`. -/
theorem bct_B (o : ℕ) (l : Fin 6) (ho : o = 128 * l.val) (h : n.val < 32) (h' : o + b.val < 768) :
    bct I (ix2 ⟨n, h⟩ ⟨o + b.val, h'⟩) = Math.Bm (inOf I) b l n := by
  rw [bct_at]
  refine Finset.sum_congr rfl fun d _ => ?_
  rw [X_col I b o l ho, mul_comm]
  rfl

/-- C's row `n` at token `l`, whose columns start at `o`. -/
theorem bct_C (o : ℕ) (l : Fin 6) (ho : o = 128 * l.val) (h : 16 + n.val < 32) (h' : o + b.val < 768) :
    bct I (ix2 ⟨16 + n, h⟩ ⟨o + b.val, h'⟩) = Math.Cm (inOf I) b l n := by
  rw [bct_at]
  refine Finset.sum_congr rfl fun d _ => ?_
  rw [X_col I b o l ho, mul_comm]
  rfl

/-- B's row at the first token. -/
theorem bct_B0 (h : n.val < 32) (h' : b.val < 768) : bct I (ix2 ⟨n, h⟩ ⟨b.val, h'⟩) = Math.Bm (inOf I) b 0 n := by
  have := bct_B I n b 0 0 rfl h (by omega)
  simpa only [Nat.zero_add] using this

/-- C's row at the first token. -/
theorem bct_C0 (h : 16 + n.val < 32) (h' : b.val < 768) : bct I (ix2 ⟨16 + n, h⟩ ⟨b.val, h'⟩) = Math.Cm (inOf I) b 0 n := by
  have := bct_C I n b 0 0 rfl h (by omega)
  simpa only [Nat.zero_add] using this

/-- The decay rates. -/
theorem aneg_at : aneg I (ix2 n d) = -(Ideal.exp ((inOf I).A d n)) := by
  pointwise [aneg, k1_pay6, r1_4]
  rw [zero_sub]
  rfl

/-- The step sizes. -/
theorem dts_at : dts I (ix3 l b d) = Math.dt (inOf I) b l d := by
  pointwise [dts, k1_pay7, k1_pay4, k1_pay3, r1_0, r1_1, r1_2]
  rw [if_neg (not_not.mpr rfl), zero_sub]
  rfl

/-- The step sizes of the first token. -/
theorem dt0_at : dt0 I (ix2 b d) = Math.dt (inOf I) b 0 d := by
  rw [← dts_at]
  pointwise [dt0, k1_pay8, dts]

/-- The first token. -/
theorem xrow0_at : xrow0 I (ix3 0 b d) = (inOf I).X b 0 d := by
  rw [← xt3_at]
  pointwise [xrow0, k1_pay9, xt3]

/-- How much of a state a token keeps. -/
theorem keep_at : Ideal.exp (aneg I (ix2 n d) * dts I (ix3 l b d)) = Math.dA (inOf I) b l n d := by
  rw [aneg_at, dts_at, mul_comm]
  rfl

/-- The states after the first token. -/
theorem st0_at : k1_pay10 (bct I) (dt0 I) (xrow0 I) (ix3 n b d) = Math.state (inOf I) b 0 n d := by
  pointwise [k1_pay10]
  rw [dt0_at, xrow0_at, bct_B0]
  rfl

/-- The states after the second token. -/
theorem st1_at : k1_pay12 (xt3 I) (bct I) (aneg I) (dts I) (dt0 I) (xrow0 I) (ix3 n b d) = Math.state (inOf I) b 1 n d := by
  pointwise [k1_pay12]
  rw [keep_at, st0_at, dts_at, xt3_at, bct_B I n b 128 1 rfl]
  rfl

/-- The states after the third token. -/
theorem st2_at : u2 I (ix3 n b d) = Math.state (inOf I) b 2 n d := by
  pointwise [u2, k1_pay14]
  rw [keep_at, st1_at, dts_at, xt3_at, bct_B I n b 256 2 rfl]
  rfl

/-- The states after the fourth token. -/
theorem st3_at : k1_pay17 (xt3 I) (bct I) (aneg I) (dts I) (u2 I) (ix3 n b d) = Math.state (inOf I) b 3 n d := by
  pointwise [k1_pay17]
  rw [keep_at, st2_at, dts_at, xt3_at, bct_B I n b 384 3 rfl]
  rfl

/-- The states after the fifth token. -/
theorem st4_at : k1_pay19 (xt3 I) (bct I) (aneg I) (dts I) (u2 I) (ix3 n b d) = Math.state (inOf I) b 4 n d := by
  pointwise [k1_pay19]
  rw [keep_at, st3_at, dts_at, xt3_at, bct_B I n b 512 4 rfl]
  rfl

/-- What is read of the states after the first token. -/
theorem y0_at : k1_pay11 (bct I) (dt0 I) (xrow0 I) (ix2 b d)
    = ∑ n, Math.state (inOf I) b 0 n d * Math.Cm (inOf I) b 0 n := by
  pointwise [k1_pay11]
  simp only [st0_at, bct_C0]

/-- What is read of the states after the second token. -/
theorem y1_at : k1_pay13 (xt3 I) (bct I) (aneg I) (dts I) (dt0 I) (xrow0 I) (ix2 b d)
    = ∑ n, Math.state (inOf I) b 1 n d * Math.Cm (inOf I) b 1 n := by
  pointwise [k1_pay13]
  simp only [st1_at, bct_C I _ b 128 1 rfl]

/-- What is read of the states after the third token. -/
theorem y2_at : k1_pay16 (u2 I) (k1_pay15 (bct I)) (ix2 b d)
    = ∑ n, Math.state (inOf I) b 2 n d * Math.Cm (inOf I) b 2 n := by
  pointwise [k1_pay16, k1_pay15]
  simp only [st2_at, bct_C I _ b 256 2 rfl]

/-- What is read of the states after the fourth token. -/
theorem y3_at : k1_pay18 (xt3 I) (bct I) (aneg I) (dts I) (u2 I) (ix2 b d)
    = ∑ n, Math.state (inOf I) b 3 n d * Math.Cm (inOf I) b 3 n := by
  pointwise [k1_pay18]
  simp only [st3_at, bct_C I _ b 384 3 rfl]

/-- What is read of the states after the fifth token. -/
theorem y4_at : k1_pay20 (xt3 I) (bct I) (aneg I) (dts I) (u2 I) (ix2 b d)
    = ∑ n, Math.state (inOf I) b 4 n d * Math.Cm (inOf I) b 4 n := by
  pointwise [k1_pay20]
  simp only [st4_at, bct_C I _ b 512 4 rfl]

end Cert.KernelIdeal.Kern

end
-- ==== Proof.Math.Norm.lean ====
module

public import proofs.«01_k».proof.Proof.Math.Steps

@[expose] public section

set_option maxRecDepth 16384

noncomputable section

/- The second call's values at an index, from the tokens' outputs to its two output blocks: the layer normalisation and
   the scores of `Cert.Math`. -/

namespace Cert.KernelIdeal.Kern

open Cert.KernelIdeal Cert.KernelIdeal.Gen
open Idealize.ShloMosaic Idealize.ShloMosaic.TcCoe
open Cert.Math (In)

/-- What is read of the states after the last token, from what the call has at hand: the states before it `u`, the step
    sizes `e`, the token `x`, and B's and C's rows. -/
def yLast (a : FVec Ideal S16x192 .f32) (u : FVec Ideal S16x128x192 .f32) (e x : FVec Ideal S128x192 .f32)
    (B C : FVec Ideal S16x128 .f32) : FVec Ideal S128x192 .f32 :=
  let e1 := shapeCast S1x128x192 e shapeCasts_S128x192_S1x128x192
  let up := exp (mulf (broadcastTo S16x128x192 (shapeCast S16x1x192 a shapeCasts_S16x192_S16x1x192) broadcasts_S16x1x192_S16x128x192)
    (broadcastTo S16x128x192 e1 broadcasts_S1x128x192_S16x128x192))
  let fed := mulf
    (broadcastTo S16x128x192 (shapeCast S1x128x192 (mulf e x) shapeCasts_S128x192_S1x128x192) broadcasts_S1x128x192_S16x128x192)
    (broadcastTo S16x128x192 (shapeCast S16x128x1 B shapeCasts_S16x128_S16x128x1) broadcasts_S16x128x1_S16x128x192)
  let st := addf (mulf up u) fed
  multiReduction .add [0] S128x192
    (mulf st (broadcastTo S16x128x192 (shapeCast S16x128x1 C shapeCasts_S16x128_S16x128x1) broadcasts_S16x128x1_S16x128x192))
    0x00000000#32 reduces_S16x128x192_S128x192 (.inl rfl) rfl

/-- The six tokens' outputs stacked, plus the skip. -/
def stack (v6 : FVec Ideal S6x128x192 .f32) (q0 q1 q2 q3 q4 q5 : FVec Ideal S128x192 .f32) (s : Vec Ideal S1x1x192 .f32) :
    FVec Ideal S6x128x192 .f32 :=
  let up (q : FVec Ideal S128x192 .f32) : FVec Ideal S1x128x192 .f32 := shapeCast S1x128x192 q shapeCasts_S128x192_S1x128x192
  addf
    (concatenate S6x128x192 0
      [⟨S1x128x192, up q0⟩, ⟨S1x128x192, up q1⟩, ⟨S1x128x192, up q2⟩, ⟨S1x128x192, up q3⟩, ⟨S1x128x192, up q4⟩, ⟨S1x128x192, up q5⟩]
      concatenates_S1x128x192_S1x128x192_S1x128x192_S1x128x192_S1x128x192_S1x128x192_S6x128x192_d0)
    (mulf v6 (broadcastTo S6x128x192 (shapeCast S1x1x192 s shapeCasts_S1x1x192_S1x1x192) broadcasts_S1x1x192_S6x128x192))

/-- The mean of each row, over its columns. -/
def rowMean (x : FVec Ideal S768x192 .f32) : FVec Ideal S768x192 .f32 :=
  broadcastTo S768x192
    (divf (shapeCast S768x1 (multiReduction .add [1] S768 x 0x00000000#32 reduces_S768x192_S768 (.inl rfl) rfl) shapeCasts_S768_S768x1)
      (broadcast S768x1 (Scalar.ofBits (F := Ideal) .f32 0x43400000#32))) broadcasts_S768x1_S768x192

/-- The rows less their means, over their deviations. -/
def normed (x : FVec Ideal S768x192 .f32) : FVec Ideal S768x192 .f32 :=
  let c := subf x (rowMean x)
  let v := divf (shapeCast S768x1 (multiReduction .add [1] S768 (mulf c c) 0x00000000#32 reduces_S768x192_S768 (.inl rfl) rfl) shapeCasts_S768_S768x1)
    (broadcast S768x1 (Scalar.ofBits (F := Ideal) .f32 0x43400000#32))
  mulf c (broadcastTo S768x192 (rsqrt (addf v (broadcast S768x1 (Scalar.ofBits (F := Ideal) .f32 0x3727C5AC#32)))) broadcasts_S768x1_S768x192)

/-- What the last step normalises, in these terms. -/
theorem pay25_eq (v6 : FVec Ideal S6x128x192 .f32) (a : FVec Ideal S16x192 .f32) (q0 q1 q2 q3 : FVec Ideal S128x192 .f32)
    (u : FVec Ideal S16x128x192 .f32) (q4 e x : FVec Ideal S128x192 .f32) (B C : FVec Ideal S16x128 .f32) (s : Vec Ideal S1x1x192 .f32) :
    k1_pay25 (F := Ideal) v6 a q0 q1 q2 q3 u q4 e x B C s
      = normed (shapeCast S768x192 (stack v6 q0 q1 q2 q3 q4 (yLast a u e x B C) s) shapeCasts_S6x128x192_S768x192) := rfl

variable (I : Ins Ideal) (n : Fin 16) (b : Fin 128) (l : Fin 6) (d : Fin 192)

/-- What is read of the states after the last token. -/
theorem y5_at : yLast (aneg I) (k1_pay19 (xt3 I) (bct I) (aneg I) (dts I) (u2 I)) (k1_pay21 (dts I)) (k1_pay22 (xt3 I)) (k1_pay23 (bct I)) (k1_pay24 (bct I)) (ix2 b d)
    = ∑ n, Math.state (inOf I) b 5 n d * Math.Cm (inOf I) b 5 n := by
  pointwise [yLast, k1_pay21, k1_pay22, k1_pay23, k1_pay24]
  refine Finset.sum_congr rfl fun n _ => ?_
  rw [keep_at, st4_at, dts_at, xt3_at, bct_B I n b 640 5 rfl, bct_C I n b 640 5 rfl]
  rfl

/-- The tokens' outputs as the call stacks them. -/
def ys : FVec Ideal S6x128x192 .f32 :=
  stack (xt3 I) (k1_pay11 (bct I) (dt0 I) (xrow0 I)) (k1_pay13 (xt3 I) (bct I) (aneg I) (dts I) (dt0 I) (xrow0 I)) (k1_pay16 (u2 I) (k1_pay15 (bct I)))
    (k1_pay18 (xt3 I) (bct I) (aneg I) (dts I) (u2 I)) (k1_pay20 (xt3 I) (bct I) (aneg I) (dts I) (u2 I))
    (yLast (aneg I) (k1_pay19 (xt3 I) (bct I) (aneg I) (dts I) (u2 I)) (k1_pay21 (dts I)) (k1_pay22 (xt3 I)) (k1_pay23 (bct I)) (k1_pay24 (bct I)))
    (View.ld I.x6 r1_5)

/-- A token's output. -/
theorem ys_at : ys I (ix3 l b d) = Math.y (inOf I) b l d := by
  pointwise [ys, stack, r1_5]
  rw [xt3_at]
  refine congrArg₂ (· + ·) ?_ rfl
  match l with
  | 0 => exact y0_at I b d
  | 1 => exact y1_at I b d
  | 2 => exact y2_at I b d
  | 3 => exact y3_at I b d
  | 4 => exact y4_at I b d
  | 5 => exact y5_at I b d

/-- A row of the normalised rows: token `r / 128` of batch `r % 128`. -/
theorem nrm_at (r : Fin 768) :
    nrm I (ix2 r d) = Math.cen (inOf I) ⟨r.val % 128, by omega⟩ ⟨r.val / 128, by omega⟩ d
      * Ideal.rsqrt (Math.var (inOf I) ⟨r.val % 128, by omega⟩ ⟨r.val / 128, by omega⟩ + Ideal.ofBits .f32 0x3727C5AC#32) := by
  have h : nrm I = normed (shapeCast S768x192 (ys I) shapeCasts_S6x128x192_S768x192) := pay25_eq ..
  rw [h]
  pointwise [normed, rowMean]
  simp only [ys_at]
  rfl

/-- A normalised token. -/
theorem ynorm_at : ynorm I (ix3 l b d) = Math.yln (inOf I) b l d := by
  pointwise [ynorm, k1_pay27, gam, k1_pay26, r1_1]
  rw [nrm_at]
  have e1 : (⟨(l.val * 128 + b.val) % 128, by omega⟩ : Fin 128) = b := Fin.ext (by simp only; omega)
  have e2 : (⟨(l.val * 128 + b.val) / 128, by omega⟩ : Fin 6) = l := Fin.ext (by simp only; omega)
  simp only [e1, e2]
  rfl

end Cert.KernelIdeal.Kern

end
-- ==== Proof.Math.Out.lean ====
module

public import proofs.«01_k».proof.Proof.Math.Norm

@[expose] public section

set_option maxRecDepth 16384

noncomputable section

/- The second call's two output blocks at an index: where the call's channels are the layer's renumbered by
   `Cert.Math.perm`, the scores over the even and over the odd channels. -/

namespace Cert.KernelIdeal.Kern

open Cert.KernelIdeal Cert.KernelIdeal.Gen
open Idealize.ShloMosaic Idealize.ShloMosaic.TcCoe
open Cert.Math (In)

variable (I : Ins Ideal) (w : In) (hI : inOf I = Math.reidx w Math.perm) (b : Fin 128) (l : Fin 6) (o : Fin 2048)

/-- The normalised tokens under their name. -/
theorem ynorm_fold : k1_pay27 (nrm I) (gam I) (View.ld I.x8 r1_1) = ynorm I := rfl

include hI in
/-- The first 96 of a normalised token are its even channels. -/
theorem even_at (c : Fin 96) (h : c.val < 192) : ynorm I (ix3 l b ⟨c.val, h⟩) = Math.yln w b l (Math.chan 0 c) := by
  rw [ynorm_at, hI, Math.yln_reidx]
  refine congrArg _ (Fin.ext ?_)
  rw [Math.perm_val]
  simp [Math.chan]

include hI in
/-- The others are its odd channels. -/
theorem odd_at (c : Fin 96) (h : 96 + c.val < 192) : ynorm I (ix3 l b ⟨96 + c.val, h⟩) = Math.yln w b l (Math.chan 1 c) := by
  rw [ynorm_at, hI, Math.yln_reidx]
  refine congrArg _ (Fin.ext ?_)
  rw [Math.perm_val]
  simp [Math.chan]

variable (cat : Fin 2048 → Fin 6 → Fin 96 → EReal) (cb : Fin 2048 → EReal)
  (h9 : ∀ (l : Fin 6) (c : Fin 96) (o : Fin 2048), I.x9 (ix3 l c o) = cat o l c) (h10 : ∀ o : Fin 2048, I.x10 (ix2 0 o) = cb o)

include hI h9 h10

/-- The first output block: the scores over the even channels. -/
theorem visOut_at : visOut I (ix2 b o) = Math.score w b 0 cat cb o := by
  pointwise [visOut, k1_pay1, k1_pay33, k1_pay30, k1_pay28, r1_6, r1_7, r1_8, r1_9, r1_10, r1_11, r1_12]
  simp only [ynorm_fold, even_at I w hI, h9, h10]
  unfold Math.score
  rw [Fin.sum_univ_six, add_comm _ (cb o)]
  simp only [add_assoc]

/-- The second output block: the scores over the odd channels. -/
theorem infOut_at : infOut I (ix2 b o) = Math.score w b 1 cat cb o := by
  pointwise [infOut, k1_pay2, k1_pay32, k1_pay29, k1_pay31, k1_pay34, k1_pay28, r1_6, r1_7, r1_8, r1_9, r1_10, r1_11, r1_12]
  simp only [ynorm_fold, odd_at I w hI, h9, h10]
  unfold Math.score
  rw [Fin.sum_univ_six, add_comm _ (cb o)]
  simp only [add_assoc]

end Cert.KernelIdeal.Kern

end
-- ==== Proof.Math.KerOut.lean ====
module

public import proofs.«01_k».proof.Proof.Kern.Run
public import proofs.«01_k».proof.Proof.Math.KerToken
public import proofs.«01_k».proof.Proof.Math.HostAt
public import proofs.«01_k».proof.Proof.Math.ScanAt
public import proofs.«01_k».proof.Proof.Math.Out
public import proofs.«01_k».proof.Proof.Math.Result

@[expose] public section

set_option maxRecDepth 16384

noncomputable section

/- The kernel's two results as the function of its arguments. -/

namespace Cert.KernelIdeal.Kern

open Cert.KernelIdeal Cert.KernelIdeal.Gen
open Idealize.ShloMosaic Idealize.ShloMosaic.TcCoe Idealize.SL.Sem Idealize.ShloMosaic.StableHlo
open Cert.Math (perm)

variable (m : (ℓ : Loc nD τ sig) → Buf (Elt Ideal) ℓ) (ρ : Dev nD → PrngReg) (c : Dev nD)

/-- The scan's inputs, of the arguments `U` holds. -/
def args (U : Valuation τ sig (Elt Ideal)) : Math.In :=
  Math.inputs (U (Proc.devRef .tc main_arg0)) (U (Proc.devRef .tc main_arg1)) (U (Proc.devRef .tc main_arg2)) (U (Proc.devRef .tc main_arg3))
    (U (Proc.devRef .tc main_arg4)) (U (Proc.devRef .tc main_arg5)) (U (Proc.devRef .tc main_arg6)) (U (Proc.devRef .tc main_arg7))
    (U (Proc.devRef .tc main_arg8)) (U (Proc.devRef .tc main_arg9))

/-- The result over the channels of parity `p`, of the arguments `U` holds. -/
def res (U : Valuation τ sig (Elt Ideal)) (p : Fin 2) : FVec Ideal S128x2048x1x1 .f32 :=
  Math.result (U (Proc.devRef .tc main_arg0)) (U (Proc.devRef .tc main_arg1)) (U (Proc.devRef .tc main_arg2)) (U (Proc.devRef .tc main_arg3))
    (U (Proc.devRef .tc main_arg4)) (U (Proc.devRef .tc main_arg5)) (U (Proc.devRef .tc main_arg6)) (U (Proc.devRef .tc main_arg7))
    (U (Proc.devRef .tc main_arg8)) (U (Proc.devRef .tc main_arg9)) (U (Proc.devRef .tc main_arg10)) (U (Proc.devRef .tc main_arg11)) p

/-- The first call's tokens, where the second call reads them. -/
theorem W2_tokens : W2 (F := Ideal) m ρ c (Proc.devRef .tc main_v105) = tokens (V1 (F := Ideal) m ρ) c :=
  (W2_arr m ρ c 5).trans (tokens_eq (V1 (F := Ideal) m ρ) c)

/-- The weights the second call reads are as the host operations left them. -/
abbrev weightRefs : List (Ref sig .tc) := [main_v45, main_v53, main_v69, main_v61, main_v77, main_v85, main_v93, main_v101, main_v103, main_v104]
theorem W2_weights : ∀ a ∈ weightRefs, W2 (F := Ideal) m ρ c (Proc.devRef .tc a) = W1 (F := Ideal) m ρ c (Proc.devRef .tc a) := fun a ha =>
  W2_of_ne m ρ c a ((ListAll.forall_mem_of_all_decide (by decide +kernel) :
    ∀ a ∈ weightRefs, ∀ w, Pipeline.arrRef spec0 w ≠ a) a ha)

/-- The first call's tokens, of the arguments. -/
theorem tokens_at (l : Fin 6) (b : Fin 128) (d : Fin 192) :
    tokens (V1 (F := Ideal) m ρ) c (ix3 l b d)
      = Math.token (Math.pool (W0 (F := Ideal) m ρ c (Proc.devRef .tc main_arg0)) b l) (Math.pool (W0 (F := Ideal) m ρ c (Proc.devRef .tc main_arg1)) b l)
          (fun x => W0 (F := Ideal) m ρ c (Proc.devRef .tc main_arg2) (ix2 ⟨perm d, by omega⟩ x)) :=
  tokens_of (V1 (F := Ideal) m ρ) c _ _ (fun d x => W0 (F := Ideal) m ρ c (Proc.devRef .tc main_arg2) (ix2 ⟨perm d, by omega⟩ x))
    (Host.v0_at (W0 (F := Ideal) m ρ c)) (Host.v1_at (W0 (F := Ideal) m ρ c)) (Host.v9_at (W0 (F := Ideal) m ρ c))
    (Host.v32_at (W0 (F := Ideal) m ρ c)) (Host.v36_at (W0 (F := Ideal) m ρ c)) l b d

/-- The bias. -/
theorem in45 (d : Fin 192) : (V2 (F := Ideal) m ρ c main_v45 : FVec Ideal S1x192 .f32) (ix2 0 d) = W0 (F := Ideal) m ρ c (Proc.devRef .tc main_arg3) (ix1 ⟨perm d, by omega⟩) := by
  show W2 (F := Ideal) m ρ c (Proc.devRef .tc main_v45) (ix2 0 d) = _
  rw [W2_weights m ρ c main_v45 (by decide)]
  exact Host.v45_at (W0 (F := Ideal) m ρ c) d

/-- The step sizes' low-rank weights. -/
theorem in53 (r : Fin 6) (d : Fin 192) : (V2 (F := Ideal) m ρ c main_v53 : FVec Ideal S6x192 .f32) (ix2 r d) = W0 (F := Ideal) m ρ c (Proc.devRef .tc main_arg4) (ix2 ⟨r, by omega⟩ (perm d)) := by
  show W2 (F := Ideal) m ρ c (Proc.devRef .tc main_v53) (ix2 r d) = _
  rw [W2_weights m ρ c main_v53 (by decide)]
  exact Host.v53_at (W0 (F := Ideal) m ρ c) r d

/-- B's and C's weights. -/
theorem in61 (n : Fin 32) (d : Fin 192) : (V2 (F := Ideal) m ρ c main_v61 : FVec Ideal S32x192 .f32) (ix2 n d) = W0 (F := Ideal) m ρ c (Proc.devRef .tc main_arg4) (ix2 ⟨6 + n, by omega⟩ (perm d)) := by
  show W2 (F := Ideal) m ρ c (Proc.devRef .tc main_v61) (ix2 n d) = _
  rw [W2_weights m ρ c main_v61 (by decide)]
  exact Host.v61_at (W0 (F := Ideal) m ρ c) n d

/-- The step sizes' weights. -/
theorem in69 (r : Fin 6) (d : Fin 192) : (V2 (F := Ideal) m ρ c main_v69 : FVec Ideal S6x192 .f32) (ix2 r d) = W0 (F := Ideal) m ρ c (Proc.devRef .tc main_arg5) (ix2 (perm d) r) := by
  show W2 (F := Ideal) m ρ c (Proc.devRef .tc main_v69) (ix2 r d) = _
  rw [W2_weights m ρ c main_v69 (by decide)]
  exact Host.v69_at (W0 (F := Ideal) m ρ c) r d

/-- The decay rates' logarithms. -/
theorem in77 (n : Fin 16) (d : Fin 192) : (V2 (F := Ideal) m ρ c main_v77 : FVec Ideal S16x192 .f32) (ix2 n d) = W0 (F := Ideal) m ρ c (Proc.devRef .tc main_arg6) (ix2 (perm d) n) := by
  show W2 (F := Ideal) m ρ c (Proc.devRef .tc main_v77) (ix2 n d) = _
  rw [W2_weights m ρ c main_v77 (by decide)]
  exact Host.v77_at (W0 (F := Ideal) m ρ c) n d

/-- The skip weights. -/
theorem in85 (d : Fin 192) : (V2 (F := Ideal) m ρ c main_v85 : FVec Ideal S1x1x192 .f32) (ix3 0 0 d) = W0 (F := Ideal) m ρ c (Proc.devRef .tc main_arg7) (ix1 (perm d)) := by
  show W2 (F := Ideal) m ρ c (Proc.devRef .tc main_v85) (ix3 0 0 d) = _
  rw [W2_weights m ρ c main_v85 (by decide)]
  exact Host.v85_at (W0 (F := Ideal) m ρ c) d

/-- The normalisation's scale. -/
theorem in93 (d : Fin 192) : (V2 (F := Ideal) m ρ c main_v93 : FVec Ideal S1x192 .f32) (ix2 0 d) = W0 (F := Ideal) m ρ c (Proc.devRef .tc main_arg8) (ix1 (perm d)) := by
  show W2 (F := Ideal) m ρ c (Proc.devRef .tc main_v93) (ix2 0 d) = _
  rw [W2_weights m ρ c main_v93 (by decide)]
  exact Host.v93_at (W0 (F := Ideal) m ρ c) d

/-- The normalisation's shift. -/
theorem in101 (d : Fin 192) : (V2 (F := Ideal) m ρ c main_v101 : FVec Ideal S1x192 .f32) (ix2 0 d) = W0 (F := Ideal) m ρ c (Proc.devRef .tc main_arg9) (ix1 (perm d)) := by
  show W2 (F := Ideal) m ρ c (Proc.devRef .tc main_v101) (ix2 0 d) = _
  rw [W2_weights m ρ c main_v101 (by decide)]
  exact Host.v101_at (W0 (F := Ideal) m ρ c) d

/-- The category weights. -/
theorem cat_eq (l : Fin 6) (k : Fin 96) (o : Fin 2048) : (V2 (F := Ideal) m ρ c main_v103 : FVec Ideal S6x96x2048 .f32) (ix3 l k o) = W0 (F := Ideal) m ρ c (Proc.devRef .tc main_arg10) (ix2 o ⟨k * 6 + l, by omega⟩) := by
  show W2 (F := Ideal) m ρ c (Proc.devRef .tc main_v103) (ix3 l k o) = _
  rw [W2_weights m ρ c main_v103 (by decide)]
  exact Host.v103_at (W0 (F := Ideal) m ρ c) l k o

/-- The category bias. -/
theorem catb_eq (o : Fin 2048) : (V2 (F := Ideal) m ρ c main_v104 : FVec Ideal S1x2048 .f32) (ix2 0 o) = W0 (F := Ideal) m ρ c (Proc.devRef .tc main_arg11) (ix1 o) := by
  show W2 (F := Ideal) m ρ c (Proc.devRef .tc main_v104) (ix2 0 o) = _
  rw [W2_weights m ρ c main_v104 (by decide)]
  exact Host.v104_at (W0 (F := Ideal) m ρ c) o

/-- The tokens the second call reads. -/
theorem in105 (l : Fin 6) (b : Fin 128) (d : Fin 192) :
    (V2 (F := Ideal) m ρ c main_v105 : FVec Ideal S6x128x192 .f32) (ix3 l b d)
      = Math.token (Math.pool (W0 (F := Ideal) m ρ c (Proc.devRef .tc main_arg0)) b l) (Math.pool (W0 (F := Ideal) m ρ c (Proc.devRef .tc main_arg1)) b l)
          (fun x => W0 (F := Ideal) m ρ c (Proc.devRef .tc main_arg2) (ix2 ⟨perm d, by omega⟩ x)) := by
  show W2 (F := Ideal) m ρ c (Proc.devRef .tc main_v105) (ix3 l b d) = _
  rw [W2_tokens m ρ c]
  exact tokens_at m ρ c l b d

/-- Inputs equal field by field to the arguments' with the channels renumbered. -/
theorem inOf_eq (I : Ins Ideal) (a0 a1 : FVec Ideal S128x2048x24x12 .f32) (a2 : FVec Ideal S384x4096 .f32) (a3 : FVec Ideal S384 .f32)
    (a4 : FVec Ideal S38x192 .f32) (a5 : FVec Ideal S192x6 .f32) (a6 : FVec Ideal S192x16 .f32) (a7 a8 a9 : FVec Ideal S192 .f32)
    (hX : ∀ l b d, I.x0 (ix3 l b d) = Math.token (Math.pool a0 b l) (Math.pool a1 b l) (fun x => a2 (ix2 ⟨perm d, by omega⟩ x)))
    (hb : ∀ d, I.x1 (ix2 0 d) = a3 (ix1 ⟨perm d, by omega⟩)) (hdt : ∀ (r : Fin 6) d, I.x2 (ix2 r d) = a4 (ix2 ⟨r, by omega⟩ (perm d)))
    (hbc : ∀ (n : Fin 32) d, I.x4 (ix2 n d) = a4 (ix2 ⟨6 + n, by omega⟩ (perm d))) (hwd : ∀ r d, I.x3 (ix2 r d) = a5 (ix2 (perm d) r))
    (hA : ∀ n d, I.x5 (ix2 n d) = a6 (ix2 (perm d) n)) (hD : ∀ d, I.x6 (ix3 0 0 d) = a7 (ix1 (perm d)))
    (hg : ∀ d, I.x7 (ix2 0 d) = a8 (ix1 (perm d))) (hlb : ∀ d, I.x8 (ix2 0 d) = a9 (ix1 (perm d))) :
    inOf I = Math.reidx (Math.inputs a0 a1 a2 a3 a4 a5 a6 a7 a8 a9) perm :=
  Math.In.ext (funext fun b => funext fun l => funext fun d => congrArg₂ (fun x y : EReal => x + y) (hX l b d) (hb d))
    (funext fun r => funext fun d => hdt r d) (funext fun n => funext fun d => hbc ⟨n, by omega⟩ d)
    (funext fun n => funext fun d => (hbc ⟨16 + n, by omega⟩ d).trans
      (congrArg (fun r => a4 (ix2 r (perm d))) (Fin.ext (by show 6 + (16 + n.val) = 22 + n.val; omega))))
    (funext fun d => funext fun r => hwd r d) (funext fun d => funext fun n => hA n d) (funext hD) (funext hg) (funext hlb)

set_option maxHeartbeats 2000000 in
/-- The scan's inputs in the second call: the arguments', with the channels renumbered. -/
theorem ins_reidx : inOf (whole (V2 (F := Ideal) m ρ) c) = Math.reidx (args (W0 (F := Ideal) m ρ c)) perm := by
  unfold args
  refine inOf_eq (whole (V2 (F := Ideal) m ρ) c) _ _ _ _ _ _ _ _ _ _ ?_ ?_ ?_ ?_ ?_ ?_ ?_ ?_ ?_
  · exact in105 m ρ c
  · exact in45 m ρ c
  · exact in53 m ρ c
  · exact in61 m ρ c
  · exact in69 m ρ c
  · exact in77 m ρ c
  · exact in85 m ρ c
  · exact in93 m ρ c
  · exact in101 m ρ c

/-- An index of a result. -/
theorem idx_eq (i : S128x2048x1x1.Idx) : i = ix4 (i 0) (i 1) 0 0 := by
  funext a
  match a with
  | ⟨0, _⟩ => rfl
  | ⟨1, _⟩ => rfl
  | ⟨2, _⟩ => exact Subsingleton.elim (α := Fin 1) _ _
  | ⟨3, _⟩ => exact Subsingleton.elim (α := Fin 1) _ _

/-- A score's place in a result. -/
theorem cast_at (x : FVec Ideal S128x2048 .f32) (b : Fin 128) (o : Fin 2048) :
    broadcastInDim S128x2048x1x1 ![0, 1] bcast_S128x2048_S128x2048x1x1_0_1 x (ix4 b o 0 0) = x (ix2 b o) := by
  pointwise []

theorem W4_v107 : W4 (F := Ideal) m ρ c (Proc.devRef .tc main_v107)
    = broadcastInDim S128x2048x1x1 ![0, 1] bcast_S128x2048_S128x2048x1x1_0_1 (W3 (F := Ideal) m ρ c (Proc.devRef .tc main_v106_0)) := by
  after_reads_simp

theorem W4_v108 : W4 (F := Ideal) m ρ c (Proc.devRef .tc main_v108)
    = broadcastInDim S128x2048x1x1 ![0, 1] bcast_S128x2048_S128x2048x1x1_0_1 (W3 (F := Ideal) m ρ c (Proc.devRef .tc main_v106_1)) := by
  after_reads_simp

/-- The first result. -/
theorem res0 : W4 (F := Ideal) m ρ c (Proc.devRef .tc main_v107) = res (W0 (F := Ideal) m ρ c) 0 := by
  rw [W4_v107]
  funext i
  rw [idx_eq i]
  refine (cast_at _ (i 0) (i 1)).trans ((congrFun ((W3_arr m ρ c 11).trans (vis_arr (V2 (F := Ideal) m ρ) c)) _).trans ?_)
  exact visOut_at (whole (V2 (F := Ideal) m ρ) c) (args (W0 (F := Ideal) m ρ c)) (ins_reidx m ρ c) (i 0) (i 1) (fun o l k => W0 (F := Ideal) m ρ c (Proc.devRef .tc main_arg10) (ix2 o ⟨k * 6 + l, by omega⟩))
    (fun o => W0 (F := Ideal) m ρ c (Proc.devRef .tc main_arg11) (ix1 o)) (cat_eq m ρ c) (catb_eq m ρ c)

/-- The second result. -/
theorem res1 : W4 (F := Ideal) m ρ c (Proc.devRef .tc main_v108) = res (W0 (F := Ideal) m ρ c) 1 := by
  rw [W4_v108]
  funext i
  rw [idx_eq i]
  refine (cast_at _ (i 0) (i 1)).trans ((congrFun ((W3_arr m ρ c 12).trans (inf_arr (V2 (F := Ideal) m ρ) c)) _).trans ?_)
  exact infOut_at (whole (V2 (F := Ideal) m ρ) c) (args (W0 (F := Ideal) m ρ c)) (ins_reidx m ρ c) (i 0) (i 1) (fun o l k => W0 (F := Ideal) m ρ c (Proc.devRef .tc main_arg10) (ix2 o ⟨k * 6 + l, by omega⟩))
    (fun o => W0 (F := Ideal) m ρ c (Proc.devRef .tc main_arg11) (ix1 o)) (cat_eq m ρ c) (catb_eq m ρ c)

end Cert.KernelIdeal.Kern

end
-- ==== Proof.Math.RefAt.lean ====
module

public import proofs.«01_k».proof.Proof.Gen.ReferenceIdeal.Run
public import proofs.«01_k».proof.Proof.Math.Spec

@[expose] public section

set_option maxRecDepth 16384

noncomputable section

/- The reference's values at an index: the scan and the layer normalisation of `Cert.Math`, over its tokens and its
   arguments. -/

namespace Cert.ReferenceIdeal.Value

open Cert.ReferenceIdeal Cert.ReferenceIdeal.Gen
open Idealize.ShloMosaic Idealize.ShloMosaic.TcCoe Idealize.SL.Sem Idealize.ShloMosaic.StableHlo
open Cert.Math (In)

variable (V : Valuation τ sig (Elt Ideal))

/-- The argument projecting the tokens to the step sizes, B and C. -/
def xw (r : Fin 38) (d : Fin 192) : EReal := V (Proc.devRef .tc main_arg4) (ix2 r d)

/-- The scan's tokens and weights in the reference. -/
def refIn : In where
  X b l d := res_main_v18 V (ix3 b l d)
  wdt r d := V (Proc.devRef .tc main_arg4) (ix2 ⟨r, by omega⟩ d)
  wB n d := V (Proc.devRef .tc main_arg4) (ix2 ⟨6 + n, by omega⟩ d)
  wC n d := V (Proc.devRef .tc main_arg4) (ix2 ⟨22 + n, by omega⟩ d)
  wd d r := V (Proc.devRef .tc main_arg5) (ix2 d r)
  A d n := V (Proc.devRef .tc main_arg6) (ix2 d n)
  D d := V (Proc.devRef .tc main_arg7) (ix1 d)
  g d := V (Proc.devRef .tc main_arg8) (ix1 d)
  lb d := V (Proc.devRef .tc main_arg9) (ix1 d)

variable (n : Fin 16) (b : Fin 128) (l : Fin 6) (d : Fin 192)

/-- The projected tokens. -/
theorem v20_at (r : Fin 38) : res_main_v20 V (ix3 b l r) = ∑ d, (refIn V).X b l d * xw V r d := by
  pointwise [res_main_v20]
  rfl

/-- The step sizes. -/
theorem v26_at : res_main_v26 V (ix3 b l d) = Math.dt (refIn V) b l d := by
  pointwise [res_main_v26, res_main_call0_v3, res_main_call0_cst, res_main_v25]
  rw [if_neg (not_not.mpr rfl)]
  simp only [v20_at]
  rfl

/-- How much of a state a token keeps. -/
theorem v34_at : res_main_v34 V (ix4 b l d n) = Math.dA (refIn V) b l n d := by
  pointwise [res_main_v34]
  simp only [v26_at]
  rfl

/-- What a token feeds to a state. -/
theorem v40_at : res_main_v40 V (ix4 b l d n) = Math.dBx (refIn V) b l n d := by
  pointwise [res_main_v40]
  simp only [v26_at, v20_at]
  rfl

/-- The states after the first token. -/
theorem v47_at : res_main_v47 V (ix3 b d n) = Math.state (refIn V) b 0 n d := by
  pointwise [res_main_v47]
  simp only [v34_at, v40_at]
  rw [mul_zero, zero_add]
  rfl

/-- The states after the second token. -/
theorem v56_at : res_main_v56 V (ix3 b d n) = Math.state (refIn V) b 1 n d := by
  pointwise [res_main_v56]
  simp only [v34_at, v40_at, v47_at]
  rfl

/-- The states after the third token. -/
theorem v65_at : res_main_v65 V (ix3 b d n) = Math.state (refIn V) b 2 n d := by
  pointwise [res_main_v65]
  simp only [v34_at, v40_at, v56_at]
  rfl

/-- The states after the fourth token. -/
theorem v74_at : res_main_v74 V (ix3 b d n) = Math.state (refIn V) b 3 n d := by
  pointwise [res_main_v74]
  simp only [v34_at, v40_at, v65_at]
  rfl

/-- The states after the fifth token. -/
theorem v83_at : res_main_v83 V (ix3 b d n) = Math.state (refIn V) b 4 n d := by
  pointwise [res_main_v83]
  simp only [v34_at, v40_at, v74_at]
  rfl

/-- What a state is read through. -/
theorem v23_at : res_main_v23 V (ix3 b l n) = Math.Cm (refIn V) b l n := by
  pointwise [res_main_v23]
  simp only [v20_at]
  rfl

/-- A token's output. -/
theorem v106_at : res_main_v106 V (ix3 b l d) = Math.y (refIn V) b l d := by
  pointwise [res_main_v106]
  simp only [v47_at, v56_at, v65_at, v74_at, v83_at, v23_at, v34_at, v40_at]
  refine congrArg₂ (· + ·) ?_ rfl
  match l with
  | 0 => rfl
  | 1 => rfl
  | 2 => rfl
  | 3 => rfl
  | 4 => rfl
  | 5 => rfl

/-- The mean over a token's channels. -/
theorem v110_at : res_main_v110 V (ix3 b l 0) = Math.mean (refIn V) b l := by
  pointwise [res_main_v110]
  simp only [v106_at]
  rfl

/-- A channel less the mean. -/
theorem v112_at : res_main_v112 V (ix3 b l d) = Math.cen (refIn V) b l d := by
  pointwise [res_main_v112]
  simp only [v106_at, v110_at]
  rfl

/-- A normalised token. -/
theorem v131_at : res_main_v131 V (ix3 b d l) = Math.yln (refIn V) b l d := by
  pointwise [res_main_v131]
  simp only [v106_at, v110_at, v112_at]
  rfl

end Cert.ReferenceIdeal.Value

end
-- ==== Proof.Math.RefScore.lean ====
module

public import proofs.«01_k».proof.Proof.Math.RefAt

@[expose] public section

set_option maxRecDepth 16384

noncomputable section

/- The reference's two results at an index: the scores of `Cert.Math` over the even and over the odd channels. -/

namespace Cert.ReferenceIdeal.Value

open Cert.ReferenceIdeal Cert.ReferenceIdeal.Gen
open Idealize.ShloMosaic Idealize.ShloMosaic.TcCoe Idealize.SL.Sem Idealize.ShloMosaic.StableHlo
open Cert.Math (In)

variable (V : Valuation τ sig (Elt Ideal))

/-- The category weights: of category `o`, token `l` and channel `c`. -/
def catw (o : Fin 2048) (l : Fin 6) (c : Fin 96) : EReal := V (Proc.devRef .tc main_arg10) (ix2 o ⟨c * 6 + l, by omega⟩)

/-- The category bias. -/
def catb (o : Fin 2048) : EReal := V (Proc.devRef .tc main_arg11) (ix1 o)

/-- The first result. -/
def out0 : FVec Ideal S128x2048x1x1 .f32 := val3 V (Proc.devRef .tc main_v147)

/-- The second result. -/
def out1 : FVec Ideal S128x2048x1x1 .f32 := val3 V (Proc.devRef .tc main_v159)

/-- A sum over the 576 features by channel and token. -/
theorem sum_feat (f : Fin 576 → EReal) : ∑ k, f k = ∑ l : Fin 6, ∑ c : Fin 96, f ⟨c * 6 + l, by omega⟩ := by
  rw [Finset.sum_comm]
  exact Fin.sum_univ_tiles 96 6 rfl f

variable (b : Fin 128) (o : Fin 2048)

/-- The first result: the scores over the even channels. -/
theorem out0_at : out0 V (ix4 b o 0 0) = Math.score (refIn V) b 0 (catw V) (catb V) o := by
  rw [out0, val3_main_v147]
  pointwise []
  simp only [v131_at]
  rw [sum_feat]
  refine congrArg (fun s => Ideal.div 1 (1 + Ideal.exp (-(s + catb V o)))) ?_
  refine Finset.sum_congr rfl fun l _ => Finset.sum_congr rfl fun c _ => congrArg₂ (· * ·) ?_ rfl
  exact congrArg₂ (Math.yln (refIn V) b) (Fin.ext (by simp only; omega)) (Fin.ext (by simp only [Math.chan]; simp; omega))

/-- The second result: the scores over the odd channels. -/
theorem out1_at : out1 V (ix4 b o 0 0) = Math.score (refIn V) b 1 (catw V) (catb V) o := by
  rw [out1, val3_main_v159]
  pointwise []
  simp only [v131_at]
  rw [sum_feat]
  refine congrArg (fun s => Ideal.div 1 (1 + Ideal.exp (-(s + catb V o)))) ?_
  refine Finset.sum_congr rfl fun l _ => Finset.sum_congr rfl fun c _ => congrArg₂ (· * ·) ?_ rfl
  exact congrArg₂ (Math.yln (refIn V) b) (Fin.ext (by simp only; omega)) (Fin.ext (by simp only [Math.chan]; simp; omega))

end Cert.ReferenceIdeal.Value

end
-- ==== Proof.Math.RefToken.lean ====
module

public import proofs.«01_k».proof.Proof.Math.RefAt
public import proofs.«01_k».proof.Proof.Math.Token

@[expose] public section

set_option maxRecDepth 16384

noncomputable section

/- The reference's tokens: the means of each part's rows of the two maps, projected and shifted by the bias. -/

namespace Cert.ReferenceIdeal.Value

open Cert.ReferenceIdeal Cert.ReferenceIdeal.Gen
open Idealize.ShloMosaic Idealize.ShloMosaic.TcCoe Idealize.SL.Sem Idealize.ShloMosaic.StableHlo

variable (V : Valuation τ sig (Elt Ideal))

/-- A map summed over a part's rows and over its columns. -/
theorem pooled_at (a : FVec Ideal S128x2048x24x12 .f32) (b : Fin 128) (c : Fin 2048) (l : Fin 6) :
    Ideal.hostReduceAdd reducesTo_S128x2048x6x4x12_S128x2048x6_d3_4
        (shapeCast S128x2048x6x4x12 a shapeCasts_S128x2048x24x12_S128x2048x6x4x12) 0 (ix3 b c l)
      = ∑ j : Fin 4, ∑ w : Fin 12, a (ix4 b c ⟨l * 4 + j, by omega⟩ w) := by
  rw [Math.reduce34]
  pointwise []

/-- The reference's token of batch `b`, part `l`, channel `d`. -/
theorem v18_at (b : Fin 128) (l : Fin 6) (d : Fin 192) :
    res_main_v18 V (ix3 b l d)
      = Math.token (fun c => ∑ j : Fin 4, ∑ w : Fin 12, (V (Proc.devRef .tc main_arg0) : FVec Ideal S128x2048x24x12 .f32) (ix4 b c ⟨l * 4 + j, by omega⟩ w))
          (fun c => ∑ j : Fin 4, ∑ w : Fin 12, (V (Proc.devRef .tc main_arg1) : FVec Ideal S128x2048x24x12 .f32) (ix4 b c ⟨l * 4 + j, by omega⟩ w))
          (fun x => V (Proc.devRef .tc main_arg2) (ix2 ⟨d, by omega⟩ x))
        + V (Proc.devRef .tc main_arg3) (ix1 ⟨d, by omega⟩) := by
  pointwise [res_main_v18]
  refine congrArg (· + _) ?_
  rw [Math.sum_pairs, Math.token]
  refine Finset.sum_congr rfl fun c _ => ?_
  rw [dif_pos (by show 2 * c.val % 2 < 1; omega), dif_neg (by show ¬ (1 + 2 * c.val) % 2 < 1; omega)]
  refine congrArg₂ (· + ·) (congrArg₂ (· * ·) (congrArg₂ Ideal.div ?_ rfl) rfl) (congrArg₂ (· * ·) (congrArg₂ Ideal.div ?_ rfl) rfl)
  · refine Eq.trans ?_ (pooled_at (V (Proc.devRef .tc main_arg0)) b c l)
    exact congrArg _ (congrArg (fun c' => ix3 b c' l) (Fin.ext (by show 2 * c.val / 2 = c.val; omega)))
  · refine Eq.trans ?_ (pooled_at (V (Proc.devRef .tc main_arg1)) b c l)
    exact congrArg _ (congrArg (fun c' => ix3 b c' l) (Fin.ext (by show (1 + 2 * c.val) / 2 = c.val; omega)))

end Cert.ReferenceIdeal.Value

end
-- ==== Proof.Math.RefOut.lean ====
module

public import proofs.«01_k».proof.Proof.Math.RefScore
public import proofs.«01_k».proof.Proof.Math.RefToken
public import proofs.«01_k».proof.Proof.Math.Result

@[expose] public section

set_option maxRecDepth 16384

noncomputable section

/- The reference's two results as the function of its arguments. -/

namespace Cert.ReferenceIdeal.Value

open Cert.ReferenceIdeal Cert.ReferenceIdeal.Gen
open Idealize.ShloMosaic Idealize.ShloMosaic.TcCoe Idealize.SL.Sem Idealize.ShloMosaic.StableHlo

variable (V : Valuation τ sig (Elt Ideal))

/-- The result over the channels of parity `p`, of the arguments `V` holds. -/
def res (p : Fin 2) : FVec Ideal S128x2048x1x1 .f32 :=
  Math.result (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11)) p

/-- The scan's inputs in the reference. -/
theorem refIn_eq : refIn V = Math.inputs (V (Proc.devRef .tc main_arg0)) (V (Proc.devRef .tc main_arg1)) (V (Proc.devRef .tc main_arg2))
    (V (Proc.devRef .tc main_arg3)) (V (Proc.devRef .tc main_arg4)) (V (Proc.devRef .tc main_arg5)) (V (Proc.devRef .tc main_arg6))
    (V (Proc.devRef .tc main_arg7)) (V (Proc.devRef .tc main_arg8)) (V (Proc.devRef .tc main_arg9)) :=
  Math.In.ext (funext fun b => funext fun l => funext fun d => v18_at V b l d) rfl rfl rfl rfl rfl rfl rfl rfl

/-- An index of a result. -/
theorem idx_eq (i : S128x2048x1x1.Idx) : i = ix4 (i 0) (i 1) 0 0 := by
  funext a
  match a with
  | ⟨0, _⟩ => rfl
  | ⟨1, _⟩ => rfl
  | ⟨2, _⟩ => exact Subsingleton.elim (α := Fin 1) _ _
  | ⟨3, _⟩ => exact Subsingleton.elim (α := Fin 1) _ _

theorem out0_eq : out0 V = res V 0 := by
  funext i
  rw [idx_eq i]
  refine (out0_at V (i 0) (i 1)).trans ?_
  rw [refIn_eq]
  rfl

theorem out1_eq : out1 V = res V 1 := by
  funext i
  rw [idx_eq i]
  refine (out1_at V (i 0) (i 1)).trans ?_
  rw [refIn_eq]
  rfl

variable (m : (ℓ : Loc nD τ sig) → Buf (Elt Ideal) ℓ) (ρ : Dev nD → PrngReg)

/-- The reference's run, its results as the function of its arguments. -/
theorem run_res : θ_run defs (onTc (τ := τ) (main (F := Ideal))) ⟨m, fun _ => 0, ρ⟩ fun r => ∀ c : Dev nD,
      r.2.mem ((c.tc : Thread nD τ).loc main_v147) = res (launchContents m c) 0
      ∧ r.2.mem ((c.tc : Thread nD τ).loc main_v159) = res (launchContents m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨((h c).1.trans (val3_main_v147 (launchContents m c)).symm).trans (out0_eq _),
      ((h c).2.1.trans (val3_main_v159 (launchContents m c)).symm).trans (out1_eq _), (h c).2.2⟩) (run m ρ)

end Cert.ReferenceIdeal.Value

end
-- ==== Proof.Math.Equal.lean ====
module

public import proofs.«01_k».proof.Defs
public import proofs.«01_k».proof.Proof.Math.KerOut
public import proofs.«01_k».proof.Proof.Math.RefOut

@[expose] public section

set_option maxRecDepth 16384

noncomputable section

/- The algebraic claim: from equal arguments the idealized kernel and the reference leave the same two results. -/

namespace Cert.Equal

open Idealize.ShloMosaic Idealize.ShloMosaic.TcCoe Idealize.SL.Sem

set_option maxHeartbeats 4000000 in
/-- The two programs' results agree. -/
theorem algebraic : Cert.algebraic_KernelIdeal_ReferenceIdeal
    (hKernelIdeal := Cert.KernelIdeal.Gen.facts) (hReferenceIdeal := Cert.ReferenceIdeal.Gen.facts) := by
  intro m g m' g' _ hag
  have hres : ∀ c p, Cert.ReferenceIdeal.Value.res (StableHlo.launchContents m' c) p
      = Cert.KernelIdeal.Kern.res (Cert.KernelIdeal.Kern.W0 (F := Ideal) m g c) p := fun c p => by
    obtain ⟨e0, e1, e2, e3, e4, e5, e6, e7, e8, e9, e10, e11⟩ := hag c
    exact Math.result_congr e0 e1 e2 e3 e4 e5 e6 e7 e8 e9 e10 e11 p
  refine ⟨fun c => Cert.KernelIdeal.Kern.res (Cert.KernelIdeal.Kern.W0 (F := Ideal) m g c) 0,
    fun c => Cert.KernelIdeal.Kern.res (Cert.KernelIdeal.Kern.W0 (F := Ideal) m g c) 1, ?_, ?_⟩
  · refine (θ_run _ _ _).mono (fun r h c => ?_) (Cert.KernelIdeal.Kern.run_results (F := Ideal) m g)
    have k := (h c).2
    exact ⟨(h c).1.1.trans (Cert.KernelIdeal.Kern.res0 m g c), (h c).1.2.trans (Cert.KernelIdeal.Kern.res1 m g c),
      k _ (by decide), k _ (by decide), k _ (by decide), k _ (by decide), k _ (by decide), k _ (by decide),
      k _ (by decide), k _ (by decide), k _ (by decide), k _ (by decide), k _ (by decide), k _ (by decide)⟩
  · exact (θ_run _ _ _).mono (fun r h c => ⟨(h c).1.trans (hres c 0), (h c).2.1.trans (hres c 1), (h c).2.2⟩)
      (Cert.ReferenceIdeal.Value.run_res m' g')

end Cert.Equal

end
-- ==== Proof.lean ====
module

public import proofs.«01_k».proof.Defs
public import proofs.«01_k».proof.Proof.Kern.Same
public import proofs.«01_k».proof.Proof.Math.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Same.frame_kernel, Cert.Same.frame_kernelIdeal, Cert.Same.frame_reference, trivial, Cert.Equal.algebraic⟩

end Cert.Proof

end
